-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v31) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S16x2048x5632 : Shape := ⟨3, ![16, 2048, 5632]⟩
abbrev S16x2048 : Shape := ⟨2, ![16, 2048]⟩
abbrev S1024 : Shape := ⟨1, ![1024]⟩
abbrev S32 : Shape := ⟨1, ![32]⟩
abbrev S_ : Shape := ⟨0, ![]⟩
abbrev S16x2048x1 : Shape := ⟨3, ![16, 2048, 1]⟩
abbrev S1x1x32 : Shape := ⟨3, ![1, 1, 32]⟩
abbrev S16x2048x32 : Shape := ⟨3, ![16, 2048, 32]⟩
abbrev S16x2048x0 : Shape := ⟨3, ![16, 2048, 0]⟩
abbrev S16x2048x64 : Shape := ⟨3, ![16, 2048, 64]⟩
abbrev S16x2048x128 : Shape := ⟨3, ![16, 2048, 128]⟩
abbrev S16x2048x384 : Shape := ⟨3, ![16, 2048, 384]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S8x1 : Shape := ⟨2, ![8, 1]⟩
abbrev S8x128 : Shape := ⟨2, ![8, 128]⟩
abbrev S4x2x128 : Shape := ⟨3, ![4, 2, 128]⟩
abbrev S4x128x2 : Shape := ⟨3, ![4, 128, 2]⟩
abbrev S4x128x2x64 : Shape := ⟨4, ![4, 128, 2, 64]⟩
abbrev S4x128x128 : Shape := ⟨3, ![4, 128, 128]⟩
abbrev S8x128x1 : Shape := ⟨3, ![8, 128, 1]⟩
abbrev S4x2x1 : Shape := ⟨3, ![4, 2, 1]⟩
abbrev S4x2x64x1 : Shape := ⟨4, ![4, 2, 64, 1]⟩
abbrev S4x128x1 : Shape := ⟨3, ![4, 128, 1]⟩
abbrev S1x1024 : Shape := ⟨2, ![1, 1024]⟩
abbrev S16x2048x1024 : Shape := ⟨3, ![16, 2048, 1024]⟩
abbrev S1x2048x512 : Shape := ⟨3, ![1, 2048, 512]⟩
abbrev S1x2048x1024 : Shape := ⟨3, ![1, 2048, 1024]⟩
abbrev S1x2048x384 : Shape := ⟨3, ![1, 2048, 384]⟩
abbrev S1x128x384 : Shape := ⟨3, ![1, 128, 384]⟩
abbrev S128x384 : Shape := ⟨2, ![128, 384]⟩
abbrev S64x128 : Shape := ⟨2, ![64, 128]⟩

abbrev nBuf : Space → Nat
  | .hbm => 110
  | .vmem => 18
  | .smem => 0
  | _ => 0

abbrev bufTy : (tb : Table) → Fin (tcTables nBuf tb) → BufTy
  | .hbm, ⟨0, _⟩ => ⟨S16x2048x5632, .bf16⟩
  | .hbm, ⟨1, _⟩ => ⟨S16x2048, .i32⟩
  | .hbm, ⟨2, _⟩ => ⟨S1024, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S16x2048, .f32⟩
  | .hbm, ⟨12, _⟩ => ⟨S16x2048x1, .f32⟩
  | .hbm, ⟨13, _⟩ => ⟨S1x1x32, .f32⟩
  | .hbm, ⟨14, _⟩ => ⟨S16x2048x32, .f32⟩
  | .hbm, ⟨15, _⟩ => ⟨S16x2048x32, .f32⟩
  | .hbm, ⟨16, _⟩ => ⟨S16x2048x32, .f32⟩
  | .hbm, ⟨17, _⟩ => ⟨S16x2048x32, .f32⟩
  | .hbm, ⟨18, _⟩ => ⟨S16x2048x32, .f32⟩
  | .hbm, ⟨19, _⟩ => ⟨S_, .f32⟩
  | .hbm, ⟨20, _⟩ => ⟨S16x2048x0, .f32⟩
  | .hbm, ⟨21, _⟩ => ⟨S16x2048x64, .f32⟩
  | .hbm, ⟨22, _⟩ => ⟨S_, .f32⟩
  | .hbm, ⟨23, _⟩ => ⟨S16x2048x32, .f32⟩
  | .hbm, ⟨24, _⟩ => ⟨S_, .f32⟩
  | .hbm, ⟨25, _⟩ => ⟨S16x2048x0, .f32⟩
  | .hbm, ⟨26, _⟩ => ⟨S16x2048x64, .f32⟩
  | .hbm, ⟨27, _⟩ => ⟨S16x2048x32, .f32⟩
  | .hbm, ⟨28, _⟩ => ⟨S_, .f32⟩
  | .hbm, ⟨29, _⟩ => ⟨S16x2048x32, .f32⟩
  | .hbm, ⟨30, _⟩ => ⟨S16x2048x64, .f32⟩
  | .hbm, ⟨31, _⟩ => ⟨S_, .f32⟩
  | .hbm, ⟨32, _⟩ => ⟨S16x2048x64, .f32⟩
  | .hbm, ⟨33, _⟩ => ⟨S16x2048x128, .f32⟩
  | .hbm, ⟨34, _⟩ => ⟨S_, .f32⟩
  | .hbm, ⟨35, _⟩ => ⟨S16x2048x64, .f32⟩
  | .hbm, ⟨36, _⟩ => ⟨S16x2048x128, .f32⟩
  | .hbm, ⟨37, _⟩ => ⟨S_, .f32⟩
  | .hbm, ⟨38, _⟩ => ⟨S16x2048x64, .f32⟩
  | .hbm, ⟨39, _⟩ => ⟨S16x2048x128, .f32⟩
  | .hbm, ⟨40, _⟩ => ⟨S16x2048x384, .f32⟩
  | .hbm, ⟨41, _⟩ => ⟨S8, .f32⟩
  | .hbm, ⟨42, _⟩ => ⟨S_, .f32⟩
  | .hbm, ⟨43, _⟩ => ⟨S8, .f32⟩
  | .hbm, ⟨44, _⟩ => ⟨S8, .f32⟩
  | .hbm, ⟨45, _⟩ => ⟨S_, .f32⟩
  | .hbm, ⟨46, _⟩ => ⟨S8, .f32⟩
  | .hbm, ⟨47, _⟩ => ⟨S8, .f32⟩
  | .hbm, ⟨48, _⟩ => ⟨S_, .f32⟩
  | .hbm, ⟨49, _⟩ => ⟨S8, .f32⟩
  | .hbm, ⟨50, _⟩ => ⟨S8, .f32⟩
  | .hbm, ⟨51, _⟩ => ⟨S8, .f32⟩
  | .hbm, ⟨52, _⟩ => ⟨S128, .f32⟩
  | .hbm, ⟨53, _⟩ => ⟨S128x1, .f32⟩
  | .hbm, ⟨54, _⟩ => ⟨S1x128, .f32⟩
  | .hbm, ⟨55, _⟩ => ⟨S128x128, .f32⟩
  | .hbm, ⟨56, _⟩ => ⟨S128x128, .f32⟩
  | .hbm, ⟨57, _⟩ => ⟨S128x128, .f32⟩
  | .hbm, ⟨58, _⟩ => ⟨S1x128x128, .f32⟩
  | .hbm, ⟨59, _⟩ => ⟨S_, .f32⟩
  | .hbm, ⟨60, _⟩ => ⟨S1x128x128, .f32⟩
  | .hbm, ⟨61, _⟩ => ⟨S1x128x128, .i1⟩
  | .hbm, ⟨62, _⟩ => ⟨S_, .f32⟩
  | .hbm, ⟨63, _⟩ => ⟨S128x128, .f32⟩
  | .hbm, ⟨64, _⟩ => ⟨S128x128, .f32⟩
  | .hbm, ⟨65, _⟩ => ⟨S1x128x128, .f32⟩
  | .hbm, ⟨66, _⟩ => ⟨S8x1x1, .f32⟩
  | .hbm, ⟨67, _⟩ => ⟨S8x128x128, .f32⟩
  | .hbm, ⟨68, _⟩ => ⟨S8x128x128, .f32⟩
  | .hbm, ⟨69, _⟩ => ⟨S8x128x128, .f32⟩
  | .hbm, ⟨70, _⟩ => ⟨S8x128x128, .f32⟩
  | .hbm, ⟨71, _⟩ => ⟨S_, .f32⟩
  | .hbm, ⟨72, _⟩ => ⟨S_, .f32⟩
  | .hbm, ⟨73, _⟩ => ⟨S8x128x128, .i1⟩
  | .hbm, ⟨74, _⟩ => ⟨S8x128x128, .f32⟩
  | .hbm, ⟨75, _⟩ => ⟨S8x128x128, .f32⟩
  | .hbm, ⟨76, _⟩ => ⟨S_, .f32⟩
  | .hbm, ⟨77, _⟩ => ⟨S128, .f32⟩
  | .hbm, ⟨78, _⟩ => ⟨S128, .f32⟩
  | .hbm, ⟨79, _⟩ => ⟨S1x128, .f32⟩
  | .hbm, ⟨80, _⟩ => ⟨S8x1, .f32⟩
  | .hbm, ⟨81, _⟩ => ⟨S8x128, .f32⟩
  | .hbm, ⟨82, _⟩ => ⟨S8x128, .f32⟩
  | .hbm, ⟨83, _⟩ => ⟨S8x128, .f32⟩
  | .hbm, ⟨84, _⟩ => ⟨S8x128, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S1x128, .f32⟩
  | .hbm, ⟨89, _⟩ => ⟨S8x1, .f32⟩
  | .hbm, ⟨90, _⟩ => ⟨S8x128, .f32⟩
  | .hbm, ⟨91, _⟩ => ⟨S8x128, .f32⟩
  | .hbm, ⟨92, _⟩ => ⟨S8x128, .f32⟩
  | .hbm, ⟨93, _⟩ => ⟨S8x128, .f32⟩
  | .hbm, ⟨94, _⟩ => ⟨S_, .f32⟩
  | .hbm, ⟨95, _⟩ => ⟨S8, .f32⟩
  | .hbm, ⟨96, _⟩ => ⟨S8, .f32⟩
  | .hbm, ⟨97, _⟩ => ⟨S8, .f32⟩
  | .hbm, ⟨98, _⟩ => ⟨S4x2x128, .f32⟩
  | .hbm, ⟨99, _⟩ => ⟨S4x128x2, .f32⟩
  | .hbm, ⟨100, _⟩ => ⟨S4x128x2x64, .f32⟩
  | .hbm, ⟨101, _⟩ => ⟨S4x128x128, .f32⟩
  | .hbm, ⟨102, _⟩ => ⟨S8x128x1, .f32⟩
  | .hbm, ⟨103, _⟩ => ⟨S8x128x128, .f32⟩
  | .hbm, ⟨104, _⟩ => ⟨S4x2x1, .f32⟩
  | .hbm, ⟨105, _⟩ => ⟨S4x2x64x1, .f32⟩
  | .hbm, ⟨106, _⟩ => ⟨S4x128x1, .f32⟩
  | .hbm, ⟨107, _⟩ => ⟨S4x128x128, .f32⟩
  | .hbm, ⟨108, _⟩ => ⟨S1x1024, .f32⟩
  | .hbm, ⟨109, _⟩ => ⟨S16x2048x1024, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S1x2048x384, .f32⟩
  | .local _ .vmem, ⟨9, _⟩ => ⟨S1x2048x384, .f32⟩
  | .local _ .vmem, ⟨10, _⟩ => ⟨S8x128x128, .f32⟩
  | .local _ .vmem, ⟨11, _⟩ => ⟨S4x128x128, .f32⟩
  | .local _ .vmem, ⟨12, _⟩ => ⟨S8x128x128, .f32⟩
  | .local _ .vmem, ⟨13, _⟩ => ⟨S4x128x128, .f32⟩
  | .local _ .vmem, ⟨14, _⟩ => ⟨S1x1024, .f32⟩
  | .local _ .vmem, ⟨15, _⟩ => ⟨S1x2048x1024, .bf16⟩
  | .local _ .vmem, ⟨16, _⟩ => ⟨S1x2048x1024, .bf16⟩
  | .local _ .vmem, ⟨17, _⟩ => ⟨S4x128x128, .f32⟩
  | _, _ => ⟨S16x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_cst_9 : Ref sig .tc := ⟨.hbm, 45, rfl⟩
abbrev main_v32 : Ref sig .tc := ⟨.hbm, 46, rfl⟩
abbrev main_v33 : Ref sig .tc := ⟨.hbm, 47, rfl⟩
abbrev main_cst_10 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_11 : Ref sig .tc := ⟨.hbm, 59, rfl⟩
abbrev main_v44 : Ref sig .tc := ⟨.hbm, 60, rfl⟩
abbrev main_v45 : Ref sig .tc := ⟨.hbm, 61, rfl⟩
abbrev main_cst_12 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_13 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_v54 : Ref sig .tc := ⟨.hbm, 75, rfl⟩
abbrev main_cst_14 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_15 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_16 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v7 : BitVec 32 := Scalar.addi c0_i32 c16_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c128_i32 : BitVec 32 := 128#32
  let v8 : BitVec 32 := Scalar.muli arg13 c128_i32
  v8
def k0_off1 (k0_t1 : Fin k0_t1_loop.trips) : Fin 3 → Nat :=
  let c0_3 : Index := 0#32
  let c0_i32 : BitVec 32 := 0#32
  let c1_i32 : BitVec 32 := 1#32
  let arg13 : BitVec 32 := Scf.iv c0_i32 c1_i32 k0_t1
  let c128_i32 : BitVec 32 := 128#32
  let v8 : BitVec 32 := Scalar.muli arg13 c128_i32
  let v9 : BitVec 32 := v8
  let v10 : Index := Scalar.indexCast v9
  let c0_4 : Index := 0#32
  ![0, v10.toNat, 0]
def k0_off2 (k0_t1 : Fin k0_t1_loop.trips) : Fin 3 → Nat :=
  let c0_5 : Index := 0#32
  let c0_i32 : BitVec 32 := 0#32
  let c1_i32 : BitVec 32 := 1#32
  let arg13 : BitVec 32 := Scf.iv c0_i32 c1_i32 k0_t1
  let c128_i32 : BitVec 32 := 128#32
  let v8 : BitVec 32 := Scalar.muli arg13 c128_i32
  let v9 : BitVec 32 := v8
  let v13 : Index := Scalar.indexCast v9
  let c0_6 : Index := 0#32
  ![0, v13.toNat, 0]
def k0_off3 (k0_t1 : Fin k0_t1_loop.trips) : Fin 3 → Nat :=
  let c0_20 : Index := 0#32
  let c0_i32 : BitVec 32 := 0#32
  let c1_i32 : BitVec 32 := 1#32
  let arg13 : BitVec 32 := Scf.iv c0_i32 c1_i32 k0_t1
  let c128_i32 : BitVec 32 := 128#32
  let v8 : BitVec 32 := Scalar.muli arg13 c128_i32
  let v9 : BitVec 32 := v8
  let v57 : Index := Scalar.indexCast v9
  let c0_21 : Index := 0#32
  ![0, v57.toNat, 0]
def k0_off4 (k0_t1 : Fin k0_t1_loop.trips) : Fin 3 → Nat :=
  let c0_46 : Index := 0#32
  let c0_i32 : BitVec 32 := 0#32
  let c1_i32 : BitVec 32 := 1#32
  let arg13 : BitVec 32 := Scf.iv c0_i32 c1_i32 k0_t1
  let c128_i32 : BitVec 32 := 128#32
  let v8 : BitVec 32 := Scalar.muli arg13 c128_i32
  let v9 : BitVec 32 := v8
  let v112 : Index := Scalar.indexCast v9
  let c128 : Index := 128#32
  ![0, v112.toNat, 128]
def k0_off5 (k0_t1 : Fin k0_t1_loop.trips) : Fin 3 → Nat :=
  let c0_73 : Index := 0#32
  let c0_i32 : BitVec 32 := 0#32
  let c1_i32 : BitVec 32 := 1#32
  let arg13 : BitVec 32 := Scf.iv c0_i32 c1_i32 k0_t1
  let c128_i32 : BitVec 32 := 128#32
  let v8 : BitVec 32 := Scalar.muli arg13 c128_i32
  let v9 : BitVec 32 := v8
  let v168 : Index := Scalar.indexCast v9
  let c128_74 : Index := 128#32
  ![0, v168.toNat, 128]
def k0_off6 (k0_t1 : Fin k0_t1_loop.trips) : Fin 3 → Nat :=
  let c0_90 : Index := 0#32
  let c0_i32 : BitVec 32 := 0#32
  let c1_i32 : BitVec 32 := 1#32
  let arg13 : BitVec 32 := Scf.iv c0_i32 c1_i32 k0_t1
  let c128_i32 : BitVec 32 := 128#32
  let v8 : BitVec 32 := Scalar.muli arg13 c128_i32
  let v9 : BitVec 32 := v8
  let v212 : Index := Scalar.indexCast v9
  let c256 : Index := 256#32
  ![0, v212.toNat, 256]
def k0_off7 (k0_t1 : Fin k0_t1_loop.trips) : Fin 3 → Nat :=
  let c0_114 : Index := 0#32
  let c0_i32 : BitVec 32 := 0#32
  let c1_i32 : BitVec 32 := 1#32
  let arg13 : BitVec 32 := Scf.iv c0_i32 c1_i32 k0_t1
  let c128_i32 : BitVec 32 := 128#32
  let v8 : BitVec 32 := Scalar.muli arg13 c128_i32
  let v9 : BitVec 32 := v8
  let v267 : Index := Scalar.indexCast v9
  let c384 : Index := 384#32
  ![0, v267.toNat, 384]
def k0_off8 (k0_t1 : Fin k0_t1_loop.trips) : Fin 3 → Nat :=
  let c0_141 : Index := 0#32
  let c0_i32 : BitVec 32 := 0#32
  let c1_i32 : BitVec 32 := 1#32
  let arg13 : BitVec 32 := Scf.iv c0_i32 c1_i32 k0_t1
  let c128_i32 : BitVec 32 := 128#32
  let v8 : BitVec 32 := Scalar.muli arg13 c128_i32
  let v9 : BitVec 32 := v8
  let v323 : Index := Scalar.indexCast v9
  let c256_142 : Index := 256#32
  ![0, v323.toNat, 256]
def k0_off9 (k0_t1 : Fin k0_t1_loop.trips) : Fin 3 → Nat :=
  let c0_158 : Index := 0#32
  let c0_i32 : BitVec 32 := 0#32
  let c1_i32 : BitVec 32 := 1#32
  let arg13 : BitVec 32 := Scf.iv c0_i32 c1_i32 k0_t1
  let c128_i32 : BitVec 32 := 128#32
  let v8 : BitVec 32 := Scalar.muli arg13 c128_i32
  let v9 : BitVec 32 := v8
  let v367 : Index := Scalar.indexCast v9
  let c512 : Index := 512#32
  ![0, v367.toNat, 512]
def k0_off10 (k0_t1 : Fin k0_t1_loop.trips) : Fin 3 → Nat :=
  let c0_182 : Index := 0#32
  let c0_i32 : BitVec 32 := 0#32
  let c1_i32 : BitVec 32 := 1#32
  let arg13 : BitVec 32 := Scf.iv c0_i32 c1_i32 k0_t1
  let c128_i32 : BitVec 32 := 128#32
  let v8 : BitVec 32 := Scalar.muli arg13 c128_i32
  let v9 : BitVec 32 := v8
  let v422 : Index := Scalar.indexCast v9
  let c640 : Index := 640#32
  ![0, v422.toNat, 640]
def k0_off11 (k0_t1 : Fin k0_t1_loop.trips) : Fin 3 → Nat :=
  let c0_209 : Index := 0#32
  let c0_i32 : BitVec 32 := 0#32
  let c1_i32 : BitVec 32 := 1#32
  let arg13 : BitVec 32 := Scf.iv c0_i32 c1_i32 k0_t1
  let c128_i32 : BitVec 32 := 128#32
  let v8 : BitVec 32 := Scalar.muli arg13 c128_i32
  let v9 : BitVec 32 := v8
  let v478 : Index := Scalar.indexCast v9
  let c384_210 : Index := 384#32
  ![0, v478.toNat, 384]
def k0_off12 (k0_t1 : Fin k0_t1_loop.trips) : Fin 3 → Nat :=
  let c0_226 : Index := 0#32
  let c0_i32 : BitVec 32 := 0#32
  let c1_i32 : BitVec 32 := 1#32
  let arg13 : BitVec 32 := Scf.iv c0_i32 c1_i32 k0_t1
  let c128_i32 : BitVec 32 := 128#32
  let v8 : BitVec 32 := Scalar.muli arg13 c128_i32
  let v9 : BitVec 32 := v8
  let v522 : Index := Scalar.indexCast v9
  let c768 : Index := 768#32
  ![0, v522.toNat, 768]
def k0_off13 (k0_t1 : Fin k0_t1_loop.trips) : Fin 3 → Nat :=
  let c0_250 : Index := 0#32
  let c0_i32 : BitVec 32 := 0#32
  let c1_i32 : BitVec 32 := 1#32
  let arg13 : BitVec 32 := Scf.iv c0_i32 c1_i32 k0_t1
  let c128_i32 : BitVec 32 := 128#32
  let v8 : BitVec 32 := Scalar.muli arg13 c128_i32
  let v9 : BitVec 32 := v8
  let v577 : Index := Scalar.indexCast v9
  let c896 : Index := 896#32
  ![0, v577.toNat, 896]
def cc0_transform_0 (i : grid0.Coords) : Fin 3 → Nat :=
  let arg0 : BitVec 32 := BitVec.ofNat 32 (i 0).val
  let c0_i32 : BitVec 32 := 0#32
  let c8_i32 : BitVec 32 := 8#32
  let c0_i32_0 : BitVec 32 := 0#32
  ![arg0.toNat, c0_i32.toNat, c8_i32.toNat]

def cc0_transform_1 (i : grid0.Coords) : Fin 3 → Nat :=
  let arg0 : BitVec 32 := BitVec.ofNat 32 (i 0).val
  let c0_i32 : BitVec 32 := 0#32
  let c9_i32 : BitVec 32 := 9#32
  let c0_i32_0 : BitVec 32 := 0#32
  ![arg0.toNat, c0_i32.toNat, c9_i32.toNat]

def cc0_transform_2 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![arg0.toNat, c0_i32.toNat, c3_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x2048x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S16x2048x5632 : Shape := ⟨3, ![16, 2048, 5632]⟩
abbrev S16x2048 : Shape := ⟨2, ![16, 2048]⟩
abbrev S1024 : Shape := ⟨1, ![1024]⟩
abbrev S16x2048x1024 : Shape := ⟨3, ![16, 2048, 1024]⟩
abbrev S16x2048x512 : Shape := ⟨3, ![16, 2048, 512]⟩
abbrev S32 : Shape := ⟨1, ![32]⟩
abbrev S_ : Shape := ⟨0, ![]⟩
abbrev S16x2048x1 : Shape := ⟨3, ![16, 2048, 1]⟩
abbrev S1x1x32 : Shape := ⟨3, ![1, 1, 32]⟩
abbrev S16x2048x32 : Shape := ⟨3, ![16, 2048, 32]⟩
abbrev S16x2048x8x64 : Shape := ⟨4, ![16, 2048, 8, 64]⟩
abbrev S16x2048x1x32 : Shape := ⟨4, ![16, 2048, 1, 32]⟩
abbrev S16x2048x8x32 : Shape := ⟨4, ![16, 2048, 8, 32]⟩
abbrev S16x2048x8x0 : Shape := ⟨4, ![16, 2048, 8, 0]⟩
abbrev S16x2048x8x128 : Shape := ⟨4, ![16, 2048, 8, 128]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S8x1 : Shape := ⟨2, ![8, 1]⟩
abbrev S8x128 : Shape := ⟨2, ![8, 128]⟩
abbrev S16x16x128x8x64 : Shape := ⟨5, ![16, 16, 128, 8, 64]⟩
abbrev S16x16x8x128x64 : Shape := ⟨5, ![16, 16, 8, 128, 64]⟩
abbrev S16x16x128x8x128 : Shape := ⟨5, ![16, 16, 128, 8, 128]⟩
abbrev S16x16x8x128x128 : Shape := ⟨5, ![16, 16, 8, 128, 128]⟩
abbrev S16x8x64x128 : Shape := ⟨4, ![16, 8, 64, 128]⟩
abbrev S1x16x8x128x64 : Shape := ⟨5, ![1, 16, 8, 128, 64]⟩
abbrev S16x8x128x64 : Shape := ⟨4, ![16, 8, 128, 64]⟩
abbrev S1x16x8x128x128 : Shape := ⟨5, ![1, 16, 8, 128, 128]⟩
abbrev S16x8x128x128 : Shape := ⟨4, ![16, 8, 128, 128]⟩
abbrev S1x8x128x128 : Shape := ⟨4, ![1, 8, 128, 128]⟩
abbrev S1x8x128x1 : Shape := ⟨4, ![1, 8, 128, 1]⟩
abbrev S1x8x1x1 : Shape := ⟨4, ![1, 8, 1, 1]⟩
abbrev S16x2048x8 : Shape := ⟨3, ![16, 2048, 8]⟩
abbrev S16x2048x8x1 : Shape := ⟨4, ![16, 2048, 8, 1]⟩
abbrev S1x1x1024 : Shape := ⟨3, ![1, 1, 1024]⟩

abbrev nBuf : Space → Nat
  | .hbm => 229
  | .vmem => 0
  | .smem => 0
  | _ => 0

abbrev hbmTy0_0 (i : Nat) : BufTy := match i % 128 with
  | 0 => ⟨S16x2048x5632, .bf16⟩
  | 1 => ⟨S16x2048, .i32⟩
  | 2 => ⟨S1024, .f32⟩
  | 3 => ⟨S16x2048x1024, .bf16⟩
  | 4 => ⟨S16x2048x1024, .f32⟩
  | 5 => ⟨S16x2048x512, .bf16⟩
  | 6 => ⟨S16x2048x512, .f32⟩
  | 7 => ⟨S16x2048x512, .bf16⟩
  | 8 => ⟨S16x2048x512, .f32⟩
  | 9 => ⟨S32, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S16x2048, .f32⟩
  | 18 => ⟨S16x2048x1, .f32⟩
  | 19 => ⟨S1x1x32, .f32⟩
  | 20 => ⟨S16x2048x32, .f32⟩
  | 21 => ⟨S16x2048x32, .f32⟩
  | 22 => ⟨S16x2048x32, .f32⟩
  | 23 => ⟨S16x2048x32, .f32⟩
  | 24 => ⟨S16x2048x32, .f32⟩
  | 25 => ⟨S16x2048x8x64, .f32⟩
  | 26 => ⟨S16x2048x1x32, .f32⟩
  | 27 => ⟨S16x2048x1x32, .f32⟩
  | 28 => ⟨S16x2048x8x32, .f32⟩
  | 29 => ⟨S16x2048x8x32, .f32⟩
  | 30 => ⟨S16x2048x8x0, .f32⟩
  | 31 => ⟨S16x2048x8x32, .f32⟩
  | 32 => ⟨S16x2048x8x32, .f32⟩
  | 33 => ⟨S16x2048x8x32, .f32⟩
  | 34 => ⟨S16x2048x8x32, .f32⟩
  | 35 => ⟨S16x2048x8x32, .f32⟩
  | 36 => ⟨S16x2048x8x32, .f32⟩
  | 37 => ⟨S16x2048x8x32, .f32⟩
  | 38 => ⟨S16x2048x8x32, .f32⟩
  | 39 => ⟨S16x2048x8x32, .f32⟩
  | 40 => ⟨S16x2048x8x32, .f32⟩
  | 41 => ⟨S16x2048x8x64, .f32⟩
  | 42 => ⟨S16x2048x8x64, .f32⟩
  | 43 => ⟨S16x2048x1x32, .f32⟩
  | 44 => ⟨S16x2048x1x32, .f32⟩
  | 45 => ⟨S16x2048x8x32, .f32⟩
  | 46 => ⟨S16x2048x8x32, .f32⟩
  | 47 => ⟨S16x2048x8x0, .f32⟩
  | 48 => ⟨S16x2048x8x32, .f32⟩
  | 49 => ⟨S16x2048x8x32, .f32⟩
  | 50 => ⟨S16x2048x8x32, .f32⟩
  | 51 => ⟨S16x2048x8x32, .f32⟩
  | 52 => ⟨S16x2048x8x32, .f32⟩
  | 53 => ⟨S16x2048x8x32, .f32⟩
  | 54 => ⟨S16x2048x8x32, .f32⟩
  | 55 => ⟨S16x2048x8x32, .f32⟩
  | 56 => ⟨S16x2048x8x32, .f32⟩
  | 57 => ⟨S16x2048x8x32, .f32⟩
  | 58 => ⟨S16x2048x8x64, .f32⟩
  | 59 => ⟨S16x2048x8x128, .f32⟩
  | 60 => ⟨S8, .f32⟩
  | 61 => ⟨S_, .f32⟩
  | 62 => ⟨S8, .f32⟩
  | 63 => ⟨S8, .f32⟩
  | 64 => ⟨S_, .f32⟩
  | 65 => ⟨S8, .f32⟩
  | 66 => ⟨S8, .f32⟩
  | 67 => ⟨S_, .f32⟩
  | 68 => ⟨S8, .f32⟩
  | 69 => ⟨S8, .f32⟩
  | 70 => ⟨S8, .f32⟩
  | 71 => ⟨S128, .f32⟩
  | 72 => ⟨S128x1, .f32⟩
  | 73 => ⟨S1x128, .f32⟩
  | 74 => ⟨S128x128, .f32⟩
  | 75 => ⟨S128x128, .f32⟩
  | 76 => ⟨S128x128, .f32⟩
  | 77 => ⟨S1x128x128, .f32⟩
  | 78 => ⟨S_, .f32⟩
  | 79 => ⟨S1x128x128, .f32⟩
  | 80 => ⟨S1x128x128, .i1⟩
  | 81 => ⟨S_, .f32⟩
  | 82 => ⟨S128x128, .f32⟩
  | 83 => ⟨S128x128, .f32⟩
  | 84 => ⟨S1x128x128, .f32⟩
  | 85 => ⟨S8x1x1, .f32⟩
  | 86 => ⟨S8x128x128, .f32⟩
  | 87 => ⟨S8x128x128, .f32⟩
  | 88 => ⟨S8x128x128, .f32⟩
  | 89 => ⟨S8x128x128, .f32⟩
  | 90 => ⟨S_, .f32⟩
  | 91 => ⟨S_, .f32⟩
  | 92 => ⟨S8x128x128, .i1⟩
  | 93 => ⟨S8x128x128, .f32⟩
  | 94 => ⟨S8x128x128, .f32⟩
  | 95 => ⟨S_, .f32⟩
  | 96 => ⟨S128, .f32⟩
  | 97 => ⟨S128, .f32⟩
  | 98 => ⟨S1x128, .f32⟩
  | 99 => ⟨S8x1, .f32⟩
  | 100 => ⟨S8x128, .f32⟩
  | 101 => ⟨S8x128, .f32⟩
  | 102 => ⟨S8x128, .f32⟩
  | 103 => ⟨S8x128, .f32⟩
  | 104 => ⟨S_, .f32⟩
  | 105 => ⟨S128, .f32⟩
  | 106 => ⟨S128, .f32⟩
  | 107 => ⟨S1x128, .f32⟩
  | 108 => ⟨S8x1, .f32⟩
  | 109 => ⟨S8x128, .f32⟩
  | 110 => ⟨S8x128, .f32⟩
  | 111 => ⟨S8x128, .f32⟩
  | 112 => ⟨S8x128, .f32⟩
  | 113 => ⟨S_, .f32⟩
  | 114 => ⟨S8, .f32⟩
  | 115 => ⟨S8, .f32⟩
  | 116 => ⟨S8, .f32⟩
  | 117 => ⟨S16x16x128x8x64, .f32⟩
  | 118 => ⟨S16x16x8x128x64, .f32⟩
  | 119 => ⟨S16x16x128x8x64, .f32⟩
  | 120 => ⟨S16x16x8x128x64, .f32⟩
  | 121 => ⟨S_, .f32⟩
  | 122 => ⟨S16x16x8x128x64, .f32⟩
  | 123 => ⟨S16x16x8x128x64, .f32⟩
  | 124 => ⟨S16x16x128x8x128, .f32⟩
  | 125 => ⟨S16x16x8x128x128, .f32⟩
  | 126 => ⟨S_, .f32⟩
  | 127 => ⟨S16x8x64x128, .f32⟩
  | _ => ⟨S16x2048x5632, .bf16⟩

abbrev hbmTy0_1 (i : Nat) : BufTy := match i % 128 with
  | 0 => ⟨S_, .f32⟩
  | 1 => ⟨S16x16x8x128x128, .f32⟩
  | 2 => ⟨S_, .i32⟩
  | 3 => ⟨S16x16x8x128x64, .f32⟩
  | 4 => ⟨S16x16x8x128x64, .f32⟩
  | 5 => ⟨S16x16x8x128x128, .f32⟩
  | 6 => ⟨S8x128x128, .f32⟩
  | 7 => ⟨S8x128, .f32⟩
  | 8 => ⟨S8, .f32⟩
  | 9 => ⟨S8x128, .f32⟩
  | 10 => ⟨S_, .i32⟩
  | 11 => ⟨S16x8x64x128, .f32⟩
  | 12 => ⟨S16x16x8x128x128, .f32⟩
  | 13 => ⟨S_, .i32⟩
  | 14 => ⟨S_, .i1⟩
  | 15 => ⟨S_, .i32⟩
  | 16 => ⟨S_, .i32⟩
  | 17 => ⟨S_, .i32⟩
  | 18 => ⟨S_, .i32⟩
  | 19 => ⟨S1x16x8x128x64, .f32⟩
  | 20 => ⟨S16x8x128x64, .f32⟩
  | 21 => ⟨S_, .i32⟩
  | 22 => ⟨S_, .i32⟩
  | 23 => ⟨S_, .i32⟩
  | 24 => ⟨S_, .i32⟩
  | 25 => ⟨S1x16x8x128x64, .f32⟩
  | 26 => ⟨S16x8x128x64, .f32⟩
  | 27 => ⟨S_, .i32⟩
  | 28 => ⟨S_, .i32⟩
  | 29 => ⟨S_, .i32⟩
  | 30 => ⟨S_, .i32⟩
  | 31 => ⟨S1x16x8x128x128, .f32⟩
  | 32 => ⟨S16x8x128x128, .f32⟩
  | 33 => ⟨S16x8x128x128, .f32⟩
  | 34 => ⟨S1x8x128x128, .f32⟩
  | 35 => ⟨S16x8x128x128, .f32⟩
  | 36 => ⟨S16x8x128x128, .f32⟩
  | 37 => ⟨S16x8x128x128, .f32⟩
  | 38 => ⟨S16x8x128x128, .f32⟩
  | 39 => ⟨S1x8x128x1, .f32⟩
  | 40 => ⟨S16x8x128x128, .f32⟩
  | 41 => ⟨S16x8x128x128, .f32⟩
  | 42 => ⟨S16x8x128x128, .f32⟩
  | 43 => ⟨S1x8x1x1, .f32⟩
  | 44 => ⟨S16x8x64x128, .f32⟩
  | 45 => ⟨S16x8x64x128, .f32⟩
  | 46 => ⟨S1x8x128x1, .f32⟩
  | 47 => ⟨S16x8x128x64, .f32⟩
  | 48 => ⟨S16x8x128x64, .f32⟩
  | 49 => ⟨S16x8x64x128, .f32⟩
  | 50 => ⟨S16x8x64x128, .f32⟩
  | 51 => ⟨S1x16x8x128x128, .f32⟩
  | 52 => ⟨S_, .i32⟩
  | 53 => ⟨S_, .i32⟩
  | 54 => ⟨S_, .i32⟩
  | 55 => ⟨S_, .i32⟩
  | 56 => ⟨S16x16x8x128x128, .f32⟩
  | 57 => ⟨S_, .i32⟩
  | 58 => ⟨S_, .i32⟩
  | 59 => ⟨S16x16x128x8x128, .f32⟩
  | 60 => ⟨S16x2048x8x128, .f32⟩
  | 61 => ⟨S16x2048x1024, .bf16⟩
  | 62 => ⟨S16x2048x1024, .f32⟩
  | 63 => ⟨S_, .f32⟩
  | 64 => ⟨S16x2048x8, .f32⟩
  | 65 => ⟨S16x2048x8x1, .f32⟩
  | 66 => ⟨S_, .f32⟩
  | 67 => ⟨S16x2048x8x1, .f32⟩
  | 68 => ⟨S16x2048x8x1, .f32⟩
  | 69 => ⟨S16x2048x8x128, .f32⟩
  | 70 => ⟨S16x2048x8x128, .f32⟩
  | 71 => ⟨S16x2048x8x128, .f32⟩
  | 72 => ⟨S_, .f32⟩
  | 73 => ⟨S16x2048x8, .f32⟩
  | 74 => ⟨S16x2048x8x1, .f32⟩
  | 75 => ⟨S_, .f32⟩
  | 76 => ⟨S16x2048x8x1, .f32⟩
  | 77 => ⟨S16x2048x8x1, .f32⟩
  | 78 => ⟨S16x2048x8x128, .f32⟩
  | 79 => ⟨S16x2048x8x128, .f32⟩
  | 80 => ⟨S_, .f32⟩
  | 81 => ⟨S16x2048x8x1, .f32⟩
  | 82 => ⟨S16x2048x8x1, .f32⟩
  | 83 => ⟨S16x2048x8x1, .f32⟩
  | 84 => ⟨S16x2048x8x128, .f32⟩
  | 85 => ⟨S16x2048x8x128, .f32⟩
  | 86 => ⟨S16x2048x1024, .f32⟩
  | 87 => ⟨S1x1x1024, .f32⟩
  | 88 => ⟨S16x2048x1024, .f32⟩
  | 89 => ⟨S16x2048x1024, .f32⟩
  | 90 => ⟨S16x2048x1024, .f32⟩
  | 91 => ⟨S16x2048x1024, .f32⟩
  | 92 => ⟨S_, .f32⟩
  | 93 => ⟨S16x2048x1024, .f32⟩
  | 94 => ⟨S16x2048x1024, .f32⟩
  | 95 => ⟨S_, .f32⟩
  | 96 => ⟨S16x2048x1024, .f32⟩
  | 97 => ⟨S16x2048x1024, .f32⟩
  | 98 => ⟨S16x2048x1024, .f32⟩
  | 99 => ⟨S16x2048x1024, .f32⟩
  | 100 => ⟨S16x2048x1024, .bf16⟩
  | _ => ⟨S16x2048x5632, .bf16⟩

abbrev hbmTy (i : Nat) : BufTy := match i / 128 with
  | 0 => hbmTy0_0 i
  | 1 => hbmTy0_1 i
  | _ => ⟨S16x2048x5632, .bf16⟩

abbrev bufTy : (tb : Table) → Fin (tcTables nBuf tb) → BufTy
  | .hbm, ⟨i, _⟩ => hbmTy i
  | _, _ => ⟨S16x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_cst_1 : Ref sig .tc := ⟨.hbm, 61, rfl⟩
abbrev main_v56 : Ref sig .tc := ⟨.hbm, 62, rfl⟩
abbrev main_v57 : Ref sig .tc := ⟨.hbm, 63, rfl⟩
abbrev main_cst_2 : Ref sig .tc := ⟨.hbm, 64, rfl⟩
abbrev main_v58 : Ref sig .tc := ⟨.hbm, 65, rfl⟩
abbrev main_v59 : Ref sig .tc := ⟨.hbm, 66, rfl⟩
abbrev main_cst_3 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_cst_4 : Ref sig .tc := ⟨.hbm, 78, rfl⟩
abbrev main_v70 : Ref sig .tc := ⟨.hbm, 79, rfl⟩
abbrev main_v71 : Ref sig .tc := ⟨.hbm, 80, rfl⟩
abbrev main_cst_5 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_cst_6 : Ref sig .tc := ⟨.hbm, 90, rfl⟩
abbrev main_call0_v0 : Ref sig .tc := ⟨.hbm, 91, rfl⟩
abbrev main_call0_v1 : Ref sig .tc := ⟨.hbm, 92, rfl⟩
abbrev main_call0_v2 : Ref sig .tc := ⟨.hbm, 93, rfl⟩
abbrev main_v80 : Ref sig .tc := ⟨.hbm, 94, rfl⟩
abbrev main_cst_7 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_cst_8 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_cst_9 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_cst_10 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_cst_11 : Ref sig .tc := ⟨.hbm, 126, rfl⟩
abbrev main_v108 : Ref sig .tc := ⟨.hbm, 127, rfl⟩
abbrev main_cst_12 : Ref sig .tc := ⟨.hbm, 128, rfl⟩
abbrev main_v109 : Ref sig .tc := ⟨.hbm, 129, rfl⟩
abbrev main_c : Ref sig .tc := ⟨.hbm, 130, rfl⟩
abbrev main_v110_0 : Ref sig .tc := ⟨.hbm, 131, rfl⟩
abbrev main_v110_1 : Ref sig .tc := ⟨.hbm, 132, rfl⟩
abbrev main_v110_2 : Ref sig .tc := ⟨.hbm, 133, rfl⟩
abbrev main_v110_3 : Ref sig .tc := ⟨.hbm, 134, rfl⟩
abbrev main_v110_4 : Ref sig .tc := ⟨.hbm, 135, rfl⟩
abbrev main_v110_5 : Ref sig .tc := ⟨.hbm, 136, rfl⟩
abbrev main_v110_6 : Ref sig .tc := ⟨.hbm, 137, rfl⟩
abbrev main_v110_7 : Ref sig .tc := ⟨.hbm, 138, rfl⟩
abbrev main_v110_8 : Ref sig .tc := ⟨.hbm, 139, rfl⟩
abbrev main_v110_9 : Ref sig .tc := ⟨.hbm, 140, rfl⟩
abbrev main_while0c_c_27 : Ref sig .tc := ⟨.hbm, 141, rfl⟩
abbrev main_while0c_v140 : Ref sig .tc := ⟨.hbm, 142, rfl⟩
abbrev main_while0b_call1_c : Ref sig .tc := ⟨.hbm, 143, rfl⟩
abbrev main_while0b_call1_c_0 : Ref sig .tc := ⟨.hbm, 144, rfl⟩
abbrev main_while0b_call1_c_1 : Ref sig .tc := ⟨.hbm, 145, rfl⟩
abbrev main_while0b_call1_c_2 : Ref sig .tc := ⟨.hbm, 146, rfl⟩
abbrev main_while0b_call1_v0 : Ref sig .tc := ⟨.hbm, 147, rfl⟩
abbrev main_while0b_v140 : Ref sig .tc := ⟨.hbm, 148, rfl⟩
abbrev main_while0b_call2_c : Ref sig .tc := ⟨.hbm, 149, rfl⟩
abbrev main_while0b_call2_c_0 : Ref sig .tc := ⟨.hbm, 150, rfl⟩
abbrev main_while0b_call2_c_1 : Ref sig .tc := ⟨.hbm, 151, rfl⟩
abbrev main_while0b_call2_c_2 : Ref sig .tc := ⟨.hbm, 152, rfl⟩
abbrev main_while0b_call2_v0 : Ref sig .tc := ⟨.hbm, 153, rfl⟩
abbrev main_while0b_v141 : Ref sig .tc := ⟨.hbm, 154, rfl⟩
abbrev main_while0b_call3_c : Ref sig .tc := ⟨.hbm, 155, rfl⟩
abbrev main_while0b_call3_c_0 : Ref sig .tc := ⟨.hbm, 156, rfl⟩
abbrev main_while0b_call3_c_1 : Ref sig .tc := ⟨.hbm, 157, rfl⟩
abbrev main_while0b_call3_c_2 : Ref sig .tc := ⟨.hbm, 158, rfl⟩
abbrev main_while0b_call3_v0 : Ref sig .tc := ⟨.hbm, 159, rfl⟩
abbrev main_while0b_v142 : Ref sig .tc := ⟨.hbm, 160, rfl⟩
abbrev main_while0b_v143 : Ref sig .tc := ⟨.hbm, 161, rfl⟩
abbrev main_while0b_v144 : Ref sig .tc := ⟨.hbm, 162, rfl⟩
abbrev main_while0b_v145 : Ref sig .tc := ⟨.hbm, 163, rfl⟩
abbrev main_while0b_v146 : Ref sig .tc := ⟨.hbm, 164, rfl⟩
abbrev main_while0b_v147 : Ref sig .tc := ⟨.hbm, 165, rfl⟩
abbrev main_while0b_v148 : Ref sig .tc := ⟨.hbm, 166, rfl⟩
abbrev main_while0b_v149 : Ref sig .tc := ⟨.hbm, 167, rfl⟩
abbrev main_while0b_v150 : Ref sig .tc := ⟨.hbm, 168, rfl⟩
abbrev main_while0b_v151 : Ref sig .tc := ⟨.hbm, 169, rfl⟩
abbrev main_while0b_v152 : Ref sig .tc := ⟨.hbm, 170, rfl⟩
abbrev main_while0b_v153 : Ref sig .tc := ⟨.hbm, 171, rfl⟩
abbrev main_while0b_v154 : Ref sig .tc := ⟨.hbm, 172, rfl⟩
abbrev main_while0b_v155 : Ref sig .tc := ⟨.hbm, 173, rfl⟩
abbrev main_while0b_v156 : Ref sig .tc := ⟨.hbm, 174, rfl⟩
abbrev main_while0b_v157 : Ref sig .tc := ⟨.hbm, 175, rfl⟩
abbrev main_while0b_v158 : Ref sig .tc := ⟨.hbm, 176, rfl⟩
abbrev main_while0b_v159 : Ref sig .tc := ⟨.hbm, 177, rfl⟩
abbrev main_while0b_v160 : Ref sig .tc := ⟨.hbm, 178, rfl⟩
abbrev main_while0b_call4_v0 : Ref sig .tc := ⟨.hbm, 179, rfl⟩
abbrev main_while0b_call4_c : Ref sig .tc := ⟨.hbm, 180, rfl⟩
abbrev main_while0b_call4_c_0 : Ref sig .tc := ⟨.hbm, 181, rfl⟩
abbrev main_while0b_call4_c_1 : Ref sig .tc := ⟨.hbm, 182, rfl⟩
abbrev main_while0b_call4_c_2 : Ref sig .tc := ⟨.hbm, 183, rfl⟩
abbrev main_while0b_v161 : Ref sig .tc := ⟨.hbm, 184, rfl⟩
abbrev main_while0b_c_27 : Ref sig .tc := ⟨.hbm, 185, rfl⟩
abbrev main_while0b_v162 : Ref sig .tc := ⟨.hbm, 186, rfl⟩
abbrev main_v111 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_cst_13 : Ref sig .tc := ⟨.hbm, 191, rfl⟩
abbrev main_v115 : Ref sig .tc := ⟨.hbm, 192, rfl⟩
abbrev main_v116 : Ref sig .tc := ⟨.hbm, 193, rfl⟩
abbrev main_cst_14 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_cst_15 : Ref sig .tc := ⟨.hbm, 200, rfl⟩
abbrev main_v122 : Ref sig .tc := ⟨.hbm, 201, rfl⟩
abbrev main_v123 : Ref sig .tc := ⟨.hbm, 202, rfl⟩
abbrev main_cst_16 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_cst_17 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_call5_v0 : Ref sig .tc := ⟨.hbm, 218, rfl⟩
abbrev main_call5_v1 : Ref sig .tc := ⟨.hbm, 219, rfl⟩
abbrev main_call5_cst : Ref sig .tc := ⟨.hbm, 220, rfl⟩
abbrev main_call5_v2 : Ref sig .tc := ⟨.hbm, 221, rfl⟩
abbrev main_call5_v3 : Ref sig .tc := ⟨.hbm, 222, rfl⟩
abbrev main_call5_cst_0 : Ref sig .tc := ⟨.hbm, 223, rfl⟩
abbrev main_call5_v4 : Ref sig .tc := ⟨.hbm, 224, rfl⟩
abbrev main_call5_v5 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S32768x2048 : Shape := ⟨2, ![32768, 2048]⟩
abbrev S2048 : Shape := ⟨1, ![2048]⟩
abbrev S2048x5456 : Shape := ⟨2, ![2048, 5456]⟩
abbrev S1x2048 : Shape := ⟨2, ![1, 2048]⟩
abbrev S2048x1024 : Shape := ⟨2, ![2048, 1024]⟩
abbrev S2048x128 : Shape := ⟨2, ![2048, 128]⟩
abbrev S2048x64 : Shape := ⟨2, ![2048, 64]⟩
abbrev S2048x16 : Shape := ⟨2, ![2048, 16]⟩
abbrev S2048x512 : Shape := ⟨2, ![2048, 512]⟩
abbrev S_ : Shape := ⟨0, ![]⟩
abbrev S2048x176 : Shape := ⟨2, ![2048, 176]⟩
abbrev S2048x5632 : Shape := ⟨2, ![2048, 5632]⟩
abbrev S32768x5632 : Shape := ⟨2, ![32768, 5632]⟩
abbrev S1024x2048 : Shape := ⟨2, ![1024, 2048]⟩
abbrev S1024x512 : Shape := ⟨2, ![1024, 512]⟩
abbrev S128x2048 : Shape := ⟨2, ![128, 2048]⟩
abbrev S128 : Shape := ⟨1, ![128]⟩
abbrev S128x1 : Shape := ⟨2, ![128, 1]⟩

abbrev nBuf : Space → Nat
  | .hbm => 19
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x5456, .f32⟩
  | .hbm, ⟨3, _⟩ => ⟨S1x2048, .f32⟩
  | .hbm, ⟨4, _⟩ => ⟨S2048x1024, .f32⟩
  | .hbm, ⟨5, _⟩ => ⟨S2048x128, .f32⟩
  | .hbm, ⟨6, _⟩ => ⟨S2048x128, .f32⟩
  | .hbm, ⟨7, _⟩ => ⟨S2048x1024, .f32⟩
  | .hbm, ⟨8, _⟩ => ⟨S2048x64, .f32⟩
  | .hbm, ⟨9, _⟩ => ⟨S2048x16, .f32⟩
  | .hbm, ⟨10, _⟩ => ⟨S2048x512, .f32⟩
  | .hbm, ⟨11, _⟩ => ⟨S2048x512, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x176, .f32⟩
  | .hbm, ⟨16, _⟩ => ⟨S2048x5632, .f32⟩
  | .hbm, ⟨17, _⟩ => ⟨S2048x5632, .bf16⟩
  | .hbm, ⟨18, _⟩ => ⟨S32768x5632, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .bf16⟩
  | .local _ .vmem, ⟨6, _⟩ => ⟨S1024x512, .bf16⟩
  | .local _ .vmem, ⟨7, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c8_i32 : BitVec 32 := 8#32
  let v9 : BitVec 32 := Scalar.addi c0_i32_6 c8_i32
  let c1_i32 : BitVec 32 := 1#32
  ⟨c0_i32_6, v9, c1_i32⟩
def k0_mult1 (k0_t1 : Fin k0_t1_loop.trips) : BitVec 32 :=
  let c0_i32_6 : BitVec 32 := 0#32
  let c1_i32 : BitVec 32 := 1#32
  let arg7 : BitVec 32 := Scf.iv c0_i32_6 c1_i32 k0_t1
  let c128_i32 : BitVec 32 := 128#32
  let v10 : BitVec 32 := Scalar.muli arg7 c128_i32
  v10
def k0_off1 (k0_t1 : Fin k0_t1_loop.trips) : Fin 2 → Nat :=
  let c0_i32_6 : BitVec 32 := 0#32
  let c1_i32 : BitVec 32 := 1#32
  let arg7 : BitVec 32 := Scf.iv c0_i32_6 c1_i32 k0_t1
  let c128_i32 : BitVec 32 := 128#32
  let v10 : BitVec 32 := Scalar.muli arg7 c128_i32
  let v11 : BitVec 32 := v10
  let v12 : Index := Scalar.indexCast v11
  let c0_8 : Index := 0#32
  ![v12.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S32768x2048 : Shape := ⟨2, ![32768, 2048]⟩
abbrev S2048 : Shape := ⟨1, ![2048]⟩
abbrev S2048x5456 : Shape := ⟨2, ![2048, 5456]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x5456 : Shape := ⟨2, ![32768, 5456]⟩
abbrev S32768x1024 : Shape := ⟨2, ![32768, 1024]⟩
abbrev S32768x128 : Shape := ⟨2, ![32768, 128]⟩
abbrev S32768x64 : Shape := ⟨2, ![32768, 64]⟩
abbrev S32768x16 : Shape := ⟨2, ![32768, 16]⟩
abbrev S32768x512 : Shape := ⟨2, ![32768, 512]⟩
abbrev S32768x176 : Shape := ⟨2, ![32768, 176]⟩
abbrev S32768x5632 : Shape := ⟨2, ![32768, 5632]⟩

abbrev nBuf : Space → Nat
  | .hbm => 34
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x5456, .f32⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S32768x5456, .f32⟩
  | .hbm, ⟨20, _⟩ => ⟨S32768x1024, .f32⟩
  | .hbm, ⟨21, _⟩ => ⟨S32768x128, .f32⟩
  | .hbm, ⟨22, _⟩ => ⟨S32768x128, .f32⟩
  | .hbm, ⟨23, _⟩ => ⟨S32768x1024, .f32⟩
  | .hbm, ⟨24, _⟩ => ⟨S32768x64, .f32⟩
  | .hbm, ⟨25, _⟩ => ⟨S32768x16, .f32⟩
  | .hbm, ⟨26, _⟩ => ⟨S32768x512, .f32⟩
  | .hbm, ⟨27, _⟩ => ⟨S32768x512, .f32⟩
  | .hbm, ⟨28, _⟩ => ⟨S32768x1024, .f32⟩
  | .hbm, ⟨29, _⟩ => ⟨S32768x1024, .f32⟩
  | .hbm, ⟨30, _⟩ => ⟨S_, .f32⟩
  | .hbm, ⟨31, _⟩ => ⟨S32768x176, .f32⟩
  | .hbm, ⟨32, _⟩ => ⟨S32768x5632, .f32⟩
  | .hbm, ⟨33, _⟩ => ⟨S32768x5632, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Kernel3.lean ====
abbrev S32768x1024 : Shape := ⟨2, ![32768, 1024]⟩
abbrev S32768x2048 : Shape := ⟨2, ![32768, 2048]⟩
abbrev S2048x2048 : Shape := ⟨2, ![2048, 2048]⟩
abbrev S2048 : Shape := ⟨1, ![2048]⟩
abbrev S1024x2048 : Shape := ⟨2, ![1024, 2048]⟩
abbrev S1x2048 : Shape := ⟨2, ![1, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 14
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048x2048, .bf16⟩
  | .hbm, ⟨7, _⟩ => ⟨S1024x2048, .bf16⟩
  | .hbm, ⟨8, _⟩ => ⟨S1024x2048, .bf16⟩
  | .hbm, ⟨9, _⟩ => ⟨S1x2048, .f32⟩
  | .hbm, ⟨10, _⟩ => ⟨S1x2048, .f32⟩
  | .hbm, ⟨11, _⟩ => ⟨S32768x2048, .f32⟩
  | .hbm, ⟨12, _⟩ => ⟨S32768x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S32768x1024 : Shape := ⟨2, ![32768, 1024]⟩
abbrev S32768x2048 : Shape := ⟨2, ![32768, 2048]⟩
abbrev S2048x2048 : Shape := ⟨2, ![2048, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S32768x1024, .f32⟩
  | .hbm, ⟨7, _⟩ => ⟨S32768x1024, .f32⟩
  | .hbm, ⟨8, _⟩ => ⟨S32768x2048, .f32⟩
  | .hbm, ⟨9, _⟩ => ⟨S32768x2048, .f32⟩
  | .hbm, ⟨10, _⟩ => ⟨S32768x2048, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x2048, .f32⟩
  | .hbm, ⟨22, _⟩ => ⟨S32768x2048, .f32⟩
  | .hbm, ⟨23, _⟩ => ⟨S1x2048, .f32⟩
  | .hbm, ⟨24, _⟩ => ⟨S32768x2048, .f32⟩
  | .hbm, ⟨25, _⟩ => ⟨S32768x2048, .f32⟩
  | .hbm, ⟨26, _⟩ => ⟨S32768x2048, .f32⟩
  | .hbm, ⟨27, _⟩ => ⟨S32768x2048, .f32⟩
  | .hbm, ⟨28, _⟩ => ⟨S_, .f32⟩
  | .hbm, ⟨29, _⟩ => ⟨S32768, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S_, .f32⟩
  | .hbm, ⟨35, _⟩ => ⟨S32768x1, .f32⟩
  | .hbm, ⟨36, _⟩ => ⟨S32768x1, .f32⟩
  | .hbm, ⟨37, _⟩ => ⟨S32768x1, .f32⟩
  | .hbm, ⟨38, _⟩ => ⟨S32768x2048, .f32⟩
  | .hbm, ⟨39, _⟩ => ⟨S32768x2048, .f32⟩
  | .hbm, ⟨40, _⟩ => ⟨S1x2048, .f32⟩
  | .hbm, ⟨41, _⟩ => ⟨S32768x2048, .f32⟩
  | .hbm, ⟨42, _⟩ => ⟨S32768x2048, .f32⟩
  | .hbm, ⟨43, _⟩ => ⟨S32768x2048, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Kernel4.lean ====
abbrev S32768x2048 : Shape := ⟨2, ![32768, 2048]⟩
abbrev S2048x8192 : Shape := ⟨2, ![2048, 8192]⟩
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S32768x2048, .bf16⟩
  | .hbm, ⟨1, _⟩ => ⟨S2048x8192, .f32⟩
  | .hbm, ⟨2, _⟩ => ⟨S8192x2048, .f32⟩
  | .hbm, ⟨3, _⟩ => ⟨S32768x2048, .f32⟩
  | .hbm, ⟨4, _⟩ => ⟨S2048, .f32⟩
  | .hbm, ⟨5, _⟩ => ⟨S2048x8192, .bf16⟩
  | .hbm, ⟨6, _⟩ => ⟨S8192x2048, .bf16⟩
  | .hbm, ⟨7, _⟩ => ⟨S1x2048, .f32⟩
  | .hbm, ⟨8, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 16], ![false, false]⟩

def k0_cond3 (i : grid0.Coords) : BitVec 1 :=
  let arg1 : BitVec 32 := BitVec.ofNat 32 (i 1).val
  let c15_i32 : BitVec 32 := 15#32
  let v17 : BitVec 1 := Scalar.cmpi .eq arg1 c15_i32
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference4Ideal.lean ====
abbrev S32768x2048 : Shape := ⟨2, ![32768, 2048]⟩
abbrev S2048x8192 : Shape := ⟨2, ![2048, 8192]⟩
abbrev S8192x2048 : Shape := ⟨2, ![8192, 2048]⟩
abbrev S2048 : Shape := ⟨1, ![2048]⟩
abbrev S32768x8192 : Shape := ⟨2, ![32768, 8192]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x8192, .f32⟩
  | .hbm, ⟨2, _⟩ => ⟨S8192x2048, .f32⟩
  | .hbm, ⟨3, _⟩ => ⟨S32768x2048, .f32⟩
  | .hbm, ⟨4, _⟩ => ⟨S2048, .f32⟩
  | .hbm, ⟨5, _⟩ => ⟨S32768x2048, .f32⟩
  | .hbm, ⟨6, _⟩ => ⟨S32768x8192, .f32⟩
  | .hbm, ⟨7, _⟩ => ⟨S_, .f32⟩
  | .hbm, ⟨8, _⟩ => ⟨S32768x8192, .f32⟩
  | .hbm, ⟨9, _⟩ => ⟨S32768x8192, .f32⟩
  | .hbm, ⟨10, _⟩ => ⟨S32768x8192, .f32⟩
  | .hbm, ⟨11, _⟩ => ⟨S32768x2048, .f32⟩
  | .hbm, ⟨12, _⟩ => ⟨S32768x2048, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x1, .f32⟩
  | .hbm, ⟨23, _⟩ => ⟨S32768x2048, .f32⟩
  | .hbm, ⟨24, _⟩ => ⟨S32768x2048, .f32⟩
  | .hbm, ⟨25, _⟩ => ⟨S1x2048, .f32⟩
  | .hbm, ⟨26, _⟩ => ⟨S32768x2048, .f32⟩
  | .hbm, ⟨27, _⟩ => ⟨S32768x2048, .f32⟩
  | .hbm, ⟨28, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Kernel5.lean ====
abbrev S32768x2048 : Shape := ⟨2, ![32768, 2048]⟩
abbrev S32768x256 : Shape := ⟨2, ![32768, 256]⟩
abbrev S2048x2048 : Shape := ⟨2, ![2048, 2048]⟩
abbrev S256x2048 : Shape := ⟨2, ![256, 2048]⟩
abbrev S2048 : Shape := ⟨1, ![2048]⟩
abbrev S1x2048 : Shape := ⟨2, ![1, 2048]⟩
abbrev S256x256 : Shape := ⟨2, ![256, 256]⟩
abbrev S256 : Shape := ⟨1, ![256]⟩
abbrev S256x1 : Shape := ⟨2, ![256, 1]⟩

abbrev nBuf : Space → Nat
  | .hbm => 9
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S32768x256, .f32⟩
  | .hbm, ⟨2, _⟩ => ⟨S2048x2048, .f32⟩
  | .hbm, ⟨3, _⟩ => ⟨S256x2048, .f32⟩
  | .hbm, ⟨4, _⟩ => ⟨S2048, .f32⟩
  | .hbm, ⟨5, _⟩ => ⟨S2048x2048, .bf16⟩
  | .hbm, ⟨6, _⟩ => ⟨S256x2048, .bf16⟩
  | .hbm, ⟨7, _⟩ => ⟨S1x2048, .f32⟩
  | .hbm, ⟨8, _⟩ => ⟨S32768x2048, .f32⟩
  | .local _ .vmem, ⟨0, _⟩ => ⟨S256x2048, .f32⟩
  | .local _ .vmem, ⟨1, _⟩ => ⟨S256x2048, .f32⟩
  | .local _ .vmem, ⟨2, _⟩ => ⟨S256x256, .f32⟩
  | .local _ .vmem, ⟨3, _⟩ => ⟨S256x256, .f32⟩
  | .local _ .vmem, ⟨4, _⟩ => ⟨S2048x2048, .bf16⟩
  | .local _ .vmem, ⟨5, _⟩ => ⟨S256x2048, .bf16⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S32768x2048 : Shape := ⟨2, ![32768, 2048]⟩
abbrev S32768x256 : Shape := ⟨2, ![32768, 256]⟩
abbrev S2048x2048 : Shape := ⟨2, ![2048, 2048]⟩
abbrev S256x2048 : Shape := ⟨2, ![256, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x256, .f32⟩
  | .hbm, ⟨2, _⟩ => ⟨S2048x2048, .f32⟩
  | .hbm, ⟨3, _⟩ => ⟨S256x2048, .f32⟩
  | .hbm, ⟨4, _⟩ => ⟨S2048, .f32⟩
  | .hbm, ⟨5, _⟩ => ⟨S32768x2048, .f32⟩
  | .hbm, ⟨6, _⟩ => ⟨S32768x2048, .f32⟩
  | .hbm, ⟨7, _⟩ => ⟨S32768x2048, .f32⟩
  | .hbm, ⟨8, _⟩ => ⟨S32768x2048, .f32⟩
  | .hbm, ⟨9, _⟩ => ⟨S_, .f32⟩
  | .hbm, ⟨10, _⟩ => ⟨S32768x2048, .f32⟩
  | .hbm, ⟨11, _⟩ => ⟨S32768x2048, .f32⟩
  | .hbm, ⟨12, _⟩ => ⟨S_, .f32⟩
  | .hbm, ⟨13, _⟩ => ⟨S32768x2048, .f32⟩
  | .hbm, ⟨14, _⟩ => ⟨S32768x2048, .f32⟩
  | .hbm, ⟨15, _⟩ => ⟨S32768x2048, .f32⟩
  | .hbm, ⟨16, _⟩ => ⟨S32768x2048, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S32768x1, .f32⟩
  | .hbm, ⟨27, _⟩ => ⟨S32768x2048, .f32⟩
  | .hbm, ⟨28, _⟩ => ⟨S32768x2048, .f32⟩
  | .hbm, ⟨29, _⟩ => ⟨S1x2048, .f32⟩
  | .hbm, ⟨30, _⟩ => ⟨S32768x2048, .f32⟩
  | .hbm, ⟨31, _⟩ => ⟨S32768x2048, .f32⟩
  | .hbm, ⟨32, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Proof.Ret.Run.lean ====
/-
The body of the retention launch, run once: the pieces it leaves in its output block.

The body zeroes its state, then goes through sixteen chunks. A chunk reads the output block where it is about to
store, and does not use what it read, so the pieces that the loop leaves do not depend on what the block held before.
-/
module

public import proofs.«01_k».proof.Proof.Gen.KernelIdeal.Frame.Runs

@[expose] public section

set_option maxRecDepth 16384

noncomputable section

namespace Cert.Proof.Ret

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg1 : Memref sig .tc .vmem S1x2048x512 .bf16) (harg1 : arg1.IsWhole)
  (arg2 : Memref sig .tc .vmem S1x2048x512 .bf16) (harg2 : arg2.IsWhole)
  (arg3 : Memref sig .tc .vmem S1x2048x1024 .bf16) (harg3 : arg3.IsWhole)
  (arg4 : Memref sig .tc .vmem S1x2048x1024 .bf16) (harg4 : arg4.IsWhole)
  (arg5 : Memref sig .tc .vmem S1x2048x384 .f32) (harg5 : arg5.IsWhole)
  (arg6 : Memref sig .tc .vmem S8x128x128 .f32) (harg6 : arg6.IsWhole)
  (arg7 : Memref sig .tc .vmem S4x128x128 .f32) (harg7 : arg7.IsWhole)
  (arg8 : Memref sig .tc .vmem S8x128x128 .f32) (harg8 : arg8.IsWhole)
  (arg9 : Memref sig .tc .vmem S4x128x128 .f32) (harg9 : arg9.IsWhole)
  (arg10 : Memref sig .tc .vmem S1x1024 .f32) (harg10 : arg10.IsWhole)
  (arg11 : Memref sig .tc .vmem S1x2048x1024 .bf16) (harg11 : arg11.IsWhole)
  (arg12 : Memref sig .tc .vmem S4x128x128 .f32) (harg12 : arg12.IsWhole)
  (x0 : Vec F S1x2048x512 .bf16)
  (x1 : Vec F S1x2048x512 .bf16)
  (x2 : Vec F S1x2048x1024 .bf16)
  (x3 : Vec F S1x2048x1024 .bf16)
  (x4 : Vec F S1x2048x384 .f32)
  (x5 : Vec F S8x128x128 .f32)
  (x6 : Vec F S4x128x128 .f32)
  (x7 : Vec F S8x128x128 .f32)
  (x8 : Vec F S4x128x128 .f32)
  (x9 : Vec F S1x1024 .f32)

/-- The pieces one chunk stores do not depend on what the output block holds before it. -/
theorem chunk_free (k : Fin k0_t1_loop.trips) (f f' : BufTy.Contents (Elt F) arg11.view.ty)
    (g : BufTy.Contents (Elt F) arg12.view.ty) :
    tripL_k0_t1 Variants.none c none i arg1 harg1 arg2 harg2 arg3 harg3 arg4 harg4 arg5 harg5 arg6 harg6 arg7 harg7 arg8 harg8 arg9 harg9 arg10 harg10 arg11 harg11 arg12 harg12
        (harg1.unread x0) (harg2.unread x1) (harg3.unread x2) (harg4.unread x3) (harg5.unread x4) (harg6.unread x5) (harg7.unread x6) (harg8.unread x7) (harg9.unread x8) (harg10.unread x9) k f g
      = tripL_k0_t1 Variants.none c none i arg1 harg1 arg2 harg2 arg3 harg3 arg4 harg4 arg5 harg5 arg6 harg6 arg7 harg7 arg8 harg8 arg9 harg9 arg10 harg10 arg11 harg11 arg12 harg12
        (harg1.unread x0) (harg2.unread x1) (harg3.unread x2) (harg4.unread x3) (harg5.unread x4) (harg6.unread x5) (harg7.unread x6) (harg8.unread x7) (harg9.unread x8) (harg10.unread x9) k f' g := by
  unfold tripL_k0_t1 trip_k0_t1
  rfl

/-- The pieces of the chunks before `k`, the output block first, from a state that holds `g`. -/
abbrev chunksFrom (f : BufTy.Contents (Elt F) arg11.view.ty) (g : BufTy.Contents (Elt F) arg12.view.ty) (k : ℕ) :
    List (View.Piece (Elt F) S1x2048x1024 .bf16) × List (View.Piece (Elt F) S4x128x128 .f32) :=
  pb_k0_t1 Variants.none c none i arg1 harg1 arg2 harg2 arg3 harg3 arg4 harg4 arg5 harg5 arg6 harg6 arg7 harg7 arg8 harg8 arg9 harg9 arg10 harg10 arg11 harg11 arg12 harg12
    (harg1.unread x0) (harg2.unread x1) (harg3.unread x2) (harg4.unread x3) (harg5.unread x4) (harg6.unread x5) (harg7.unread x6) (harg8.unread x7) (harg9.unread x8) (harg10.unread x9) f g k

/-- Nor do the pieces of the first `k` chunks. -/
theorem chunksFrom_free (f f' : BufTy.Contents (Elt F) arg11.view.ty) (g : BufTy.Contents (Elt F) arg12.view.ty) :
    ∀ k, k ≤ k0_t1_loop.trips →
      chunksFrom c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 f g k
        = chunksFrom c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 f' g k
  | 0, _ => rfl
  | k + 1, hk => by
    have ih := chunksFrom_free f f' g k (Nat.le_of_succ_le hk)
    unfold chunksFrom at ih ⊢
    rw [pb_k0_t1_succ (k := ⟨k, hk⟩), pb_k0_t1_succ (k := ⟨k, hk⟩)]
    dsimp only
    rw [ih]
    exact congrArg (fun p => (p.1 ++ (chunksFrom c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 f' g k).1,
        p.2 ++ (chunksFrom c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 f' g k).2))
      (chunk_free c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 ⟨k, hk⟩ _ _ _)

/-- The state as the loop finds it: zero everywhere. -/
def zeroed (arg12 : Memref sig .tc .vmem S4x128x128 .f32) : BufTy.Contents (Elt F) arg12.view.ty :=
  arg12.view.writes (Elt F) arg12.view.junk
    [⟨Rect.unit (s := S4x128x128) ![0, 0, 0] S4x128x128.size inb_S4x128x128_S4x128x128_0_0_0, k0_pay1⟩]

/-- What the body leaves in the output block, as pieces. -/
def stored : List (View.Piece (Elt F) S1x2048x1024 .bf16) :=
  (chunksFrom c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 arg11.view.junk (zeroed arg12) k0_t1_loop.trips).1

/-- Those pieces, 128 blocks of `1 × 128 × 128`, cover the output block. -/
theorem stored_cover (y : S1x2048x1024.Idx) :
    ∃ pc ∈ stored c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9, y ∈ pc.1.set :=
  View.cover_of_tiledL (stored c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9) S1x128x128.size (by sl_kernel_rfl) y

set_option maxHeartbeats 1000000 in
/-- The body on whole buffers: from the inputs at `x0 … x9`, the output block and the state at anything, it runs to the
    inputs as they were, the output block with the pieces `stored` written over it, and the state at something. -/
theorem body_run (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ (∃ f, arg11.view.loc (c : Thread nD τ) ↦[arg11.view.set]{fullShare} arg11.view.writes (Elt F) f
                (stored c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9))
            ∗ (∃ d, owns (c : Thread nD τ) arg12 fullShare d)) -∗ K ⟨⟩))
      ⊢ wp frame (wpE (defs₀ (F := F)) Variants.none c none) E (cc0_retention i arg1 harg1 arg2 harg2 arg3 harg3 arg4 harg4 arg5 harg5 arg6 harg6 arg7 harg7 arg8 harg8 arg9 harg9 arg10 harg10 arg11 harg11 arg12 harg12) K := by
  simp only [cc0_retention_eq_skeleton]; unfold cc0_retention_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  sl_exec
  sl_step
  have h := chunksFrom_free c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 f10 arg11.view.junk (zeroed arg12) k0_t1_loop.trips le_rfl
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists f10
    unfold stored
    rw [← h]
    iexact H10
  iexists _, _; isplitr; swap; · iexact HS0
  ipureintro; rfl

end Cert.Proof.Ret

end
-- ==== Proof.Ret.Frame.lean ====
/-
The retention launch: its frame, and its result by the name of what each grid point leaves in the output block.

Between the body's run (`body_run`) and the launch there is one step, the obligation at every grid point: the inputs'
buffers hold their blocks, the state is at anything, and the output block ends with the run's pieces, which cover it.
-/
module

public import proofs.«01_k».proof.Proof.Ret.Run
public import Idealize.ShloMosaic.Lib.Claim
public import Idealize.ShloMosaic.Lib.Pipeline.Value

@[expose] public section

set_option maxRecDepth 16384

noncomputable section

namespace Cert.Proof.Ret

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces of the body's run at grid point `t`. -/
def piecesAt (c : Dev nD) (t : Fin cfg0.N) : List (View.Piece (Elt F) S1x2048x1024 .bf16) :=
  stored c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _)
    (iblk m c 0 t) (iblk m c 1 t) (X0_2 m c t) (X0_3 m c t) (iblk m c 4 t) (iblk m c 5 t) (iblk m c 6 t) (iblk m c 7 t) (iblk m c 8 t) (iblk m c 9 t)

/-- What the output block holds after grid point `t`: those pieces, read back. -/
def leftAt (c : Dev nD) (t : Fin cfg0.N) : Vec F S1x2048x1024 .bf16 :=
  VO0_10.read (Elt F) (VO0_10.writes (Elt F) VO0_10.junk (piecesAt m c t))

/-- The launch's proof data: an input's buffer keeps its block, the output's ends at `leftAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => X0_3 m c t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => leftAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = X0_2 m c t := by dsimp only [dats]
theorem after_3 (c : Dev nD) (t : Fin cfg0.N) : (dats m 0 c).after 3 t = X0_3 m c t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = leftAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = X0_2 m c t :=
  before0_2_of m (dats m 0 c) (A_eq m c 2) (after_2 m c) t d
theorem before_3 (c : Dev nD) (t : Fin cfg0.N) (d) : (dats m 0 c).before 3 t d = X0_3 m c t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- What it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 1200000 in
/-- The body at any point, from what it is given to what it gives back. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  rw [show (dats m 0 c).Φ t.castSucc = Pipeline.ΦA spec0 c from rfl, PhiA0_eq]
  unfold leftAt piecesAt
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_run c (grid0.coords t) _ _ _ _ _ _ _ _ _ _ _ _ _ _ _ _ _ _ _ _ _ _ _ _
    (iblk m c 0 t) (iblk m c 1 t) (X0_2 m c t) (X0_3 m c t) (iblk m c 4 t) (iblk m c 5 t) (iblk m c 6 t) (iblk m c 7 t) (iblk m c 8 t) (iblk m c 9 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS]; · iexact HS
  iintro ⟨H0, H1, H2, H3, H4, H5, H6, H7, H8, H9, ⟨%e10, H10⟩, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  unfold owns; iexists _; isplitr
  swap; · iexact H10
  ipureintro; exact View.read_writes_of_cover _ _ _ _ _ (stored_cover c _ _ _ _ _ _ _ _ _ _ _ _ _ _ _ _ _ _ _ _ _ _ _ _ _ _ _ _ _ _ _ _ _ _ _)

/-- The obligation of the launch, at every point. -/
theorem obligation (c : Dev nD) : BodyObligation (dats (F := F) m 0 c) (defs₀ (F := F)) Variants.none () Set.univ :=
  fun t => by
    have hrow : defs₀ (F := F) .tc cfg0.body (cfg0.bodyArgs t (cfg0.slots t)) = bodyAt0 t := by
      unfold defs₀; rw [Defs.onTc_tc]
    rw [bigSep_W0, bigSep_W0, hrow]
    exact triple_restated (body_at m c t) rfl .rfl fun _ => .rfl

set_option backward.isDefEq.respectTransparency.types false in
/-- The run: it terminates, the launch's arrays end as the proof data says and every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

/-- THE FRAME: the arguments end as they were, and every counter at zero. -/
theorem frame_kernel : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

/-- The same run, with the result named: the output array as the launch leaves it, the arguments as they were. -/
theorem run_named : θ_run defs (onTc (τ := τ) (main (F := F))) ⟨m, fun _ => 0, ρ⟩ fun r => ∀ c : Dev nD,
      r.2.mem ((c : Thread nD τ).loc main_v85) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1.1 c).1 10, h.2.1 c⟩)
    (θ_run_and (run_quiescent m ρ) (frame_kernel m ρ))

end Cert.Proof.Ret

end
-- ==== Proof.Ret.Entry.lean ====
/-
What the retention launch finds in its operands: the projection's column groups, and the tables the host computes.
-/
module

public import proofs.«01_k».proof.Proof.Ret.Frame
public import proofs.«01_k».proof.Proof.Gen.ReferenceIdeal.Step
public import Idealize.ShloMosaic.Lib.Pipeline.ValueKit

@[expose] public section

set_option maxRecDepth 65536
set_option maxHeartbeats 4000000

noncomputable section

namespace Cert.Proof.Ret

open Cert.KernelIdeal Cert.KernelIdeal.Gen
open Idealize.ShloMosaic Idealize.ShloMosaic.TcCoe
open Cert.ReferenceIdeal.Step (K_main_v80 K_main_v88 K_main_v96 K_main_v99 A_main_v18 A_main_v19)

variable (m : (ℓ : Loc nD τ sig) → Buf (Elt Ideal) ℓ) (c : Dev nD)

/-- The rotation's table: cosines four times, then for the sines what the upper halves take and what the lower halves take. -/
def tabOf (C S : FVec Ideal S16x2048x32 .f32) : FVec Ideal S16x2048x384 .f32 :=
  let a : FVec Ideal S16x2048x64 .f32 := concatenate S16x2048x64 2 [⟨S16x2048x32, C⟩, ⟨S16x2048x32, C⟩, ⟨S16x2048x0, broadcastInDim S16x2048x0 ![] bcast_S_S16x2048x0 (constant S_ .f32 0x3F800000#32)⟩] concatenates_S16x2048x32_S16x2048x32_S16x2048x0_S16x2048x64_d2
  let b : FVec Ideal S16x2048x64 .f32 := concatenate S16x2048x64 2 [⟨S16x2048x32, broadcastInDim S16x2048x32 ![] bcast_S_S16x2048x32 (constant S_ .f32 0x00000000#32)⟩, ⟨S16x2048x32, S⟩, ⟨S16x2048x0, broadcastInDim S16x2048x0 ![] bcast_S_S16x2048x0 (constant S_ .f32 0x00000000#32)⟩] concatenates_S16x2048x32_S16x2048x32_S16x2048x0_S16x2048x64_d2
  let n : FVec Ideal S16x2048x64 .f32 := concatenate S16x2048x64 2 [⟨S16x2048x32, Host.negf S⟩, ⟨S16x2048x32, broadcastInDim S16x2048x32 ![] bcast_S_S16x2048x32 (constant S_ .f32 0x00000000#32)⟩] concatenates_S16x2048x32_S16x2048x32_S16x2048x64_d2
  let t (x : FVec Ideal S16x2048x64 .f32) : FVec Ideal S16x2048x128 .f32 := concatenate S16x2048x128 2 [⟨S16x2048x64, x⟩, ⟨S16x2048x64, x⟩] concatenates_S16x2048x64_S16x2048x64_S16x2048x128_d2
  concatenate S16x2048x384 2 [⟨S16x2048x128, t a⟩, ⟨S16x2048x128, t b⟩, ⟨S16x2048x128, t n⟩] concatenates_S16x2048x128_S16x2048x128_S16x2048x128_S16x2048x384_d2

theorem entry_tab : V m c main_v28 = tabOf (A_main_v18 (F := Ideal) (m ((c : Thread nD τ).loc main_arg0)) (m ((c : Thread nD τ).loc main_arg1)))
    (A_main_v19 (F := Ideal) (m ((c : Thread nD τ).loc main_arg0)) (m ((c : Thread nD τ).loc main_arg1))) := by
  unfold V hostOps0 hostOps0_1 hostOps0_2
  after_results_simp <;> rfl

theorem entry_decay : V m c main_v54 = K_main_v80 (F := Ideal) := by
  unfold V hostOps0 hostOps0_1 hostOps0_2
  after_results_simp <;> rfl

theorem entry_xi : V m c main_v79 = broadcastInDim S8x128x128 ![0, 1, 2] bcast_S8x128x1_S8x128x128_0_1_2
    (broadcastInDim S8x128x1 ![0, 1] bcast_S8x128_S8x128x1_0_1 (K_main_v96 (F := Ideal))) := by
  unfold V hostOps0 hostOps0_1 hostOps0_2
  after_results_simp <;> rfl

theorem entry_zeta : V m c main_v77 = shapeCast S4x128x128 (broadcastInDim S4x128x2x64 ![0, 1, 2] bcast_S4x128x2_S4x128x2x64_0_1_2
    (transpose S4x128x2 [0, 2, 1] (shapeCast S4x2x128 (K_main_v88 (F := Ideal)) shapeCasts_S8x128_S4x2x128) transposes_S4x2x128_S4x128x2_0_2_1)) shapeCasts_S4x128x2x64_S4x128x128 := by
  unfold V hostOps0 hostOps0_1 hostOps0_2
  after_results_simp <;> rfl

theorem entry_gch : V m c main_v83 = broadcastInDim S4x128x128 ![0, 1, 2] bcast_S4x128x1_S4x128x128_0_1_2
    (shapeCast S4x128x1 (broadcastInDim S4x2x64x1 ![0, 1, 3] bcast_S4x2x1_S4x2x64x1_0_1_3
      (shapeCast S4x2x1 (K_main_v99 (F := Ideal)) shapeCasts_S8_S4x2x1)) shapeCasts_S4x2x64x1_S4x128x1) := by
  unfold V hostOps0 hostOps0_1 hostOps0_2
  after_results_simp <;> rfl

theorem entry_gain : V m c main_v84 = shapeCast S1x1024 (m ((c : Thread nD τ).loc main_arg2)) shapeCasts_S1024_S1x1024 := by
  unfold V hostOps0 hostOps0_1 hostOps0_2
  after_results_simp <;> rfl

theorem entry_arg0 : V m c main_arg0 = m ((c : Thread nD τ).loc main_arg0) := by
  unfold V hostOps0 hostOps0_1 hostOps0_2
  after_results_simp <;> rfl

end Cert.Proof.Ret
-- ==== Proof.Ret.Blocks.lean ====
/-
The retention's operand blocks at a grid point, entry by entry.
-/
module

public import proofs.«01_k».proof.Proof.Ret.Entry
public import Idealize.ShloMosaic.Lib.Pointwise

@[expose] public section

set_option maxRecDepth 16384

noncomputable section

namespace Cert.Proof.Ret

open Cert.KernelIdeal Cert.KernelIdeal.Gen
open Idealize.ShloMosaic Idealize.ShloMosaic.TcCoe
open Cert.ReferenceIdeal.Step (K_main_v80 K_main_v88 K_main_v96 K_main_v99 A_main_v18 A_main_v19)

variable (m : (ℓ : Loc nD τ sig) → Buf (Elt Ideal) ℓ) (c : Dev nD)

/-- Every window's block index at every grid point. -/
theorem idx : ∀ t : Fin cfg0.N, win0_0.index t = ![t.val, 0, 8] ∧ win0_1.index t = ![t.val, 0, 9]
    ∧ win0_2.index t = ![t.val, 0, 2] ∧ win0_3.index t = ![t.val, 0, 3] ∧ win0_4.index t = ![t.val, 0, 0]
    ∧ win0_5.index t = ![0, 0, 0] ∧ win0_6.index t = ![0, 0, 0] ∧ win0_7.index t = ![0, 0, 0] ∧ win0_8.index t = ![0, 0, 0]
    ∧ win0_9.index t = ![0, 0] ∧ win0_10.index t = ![t.val, 0, 0] :=
  (by decide +kernel : ∀ t : Fin grid0.N, _)

/-- The table's entries: cosines, -/
theorem tab_cos (C S : FVec Ideal S16x2048x32 .f32) (b : Fin 16) (r : Fin 2048) (L : Fin 128) :
    tabOf C S (ix3 b r ⟨L.val, by omega⟩) = C (ix3 b r ⟨L.val % 32, by omega⟩) := by
  pointwise [tabOf]
  split_ifs <;> first | omega | rfl | (refine congrArg C (congrArg (ix3 b r) (Fin.ext ?_)); dsimp only; omega)

/-- the sines of the upper halves, -/
theorem tab_sin (C S : FVec Ideal S16x2048x32 .f32) (b : Fin 16) (r : Fin 2048) (L : Fin 128) :
    tabOf C S (ix3 b r ⟨128 + L.val, by omega⟩) = if L.val % 64 < 32 then 0 else S (ix3 b r ⟨L.val % 32, by omega⟩) := by
  by_cases hL : L.val % 64 < 32 <;> simp only [hL, if_true, if_false] <;> pointwise [tabOf]
  all_goals
    split_ifs <;> first | omega | rfl | (refine congrArg S (congrArg (ix3 b r) (Fin.ext ?_)); dsimp only; omega)

/-- the sines of the lower halves, negated. -/
theorem tab_neg (C S : FVec Ideal S16x2048x32 .f32) (b : Fin 16) (r : Fin 2048) (L : Fin 128) :
    tabOf C S (ix3 b r ⟨256 + L.val, by omega⟩) = if L.val % 64 < 32 then -S (ix3 b r ⟨L.val % 32, by omega⟩) else 0 := by
  by_cases hL : L.val % 64 < 32 <;> simp only [hL, if_true, if_false] <;> pointwise [tabOf]
  all_goals
    split_ifs <;> first | omega | rfl | (refine congrArg (fun x => -S (ix3 b r x)) (Fin.ext ?_); dsimp only; omega)

variable (t : Fin cfg0.N)

/-- The queries' block, -/
theorem block_q (r : Fin 2048) (l : Fin 512) :
    iblk m c 0 t (ix3 0 r l) = m ((c : Thread nD τ).loc main_arg0) (ix3 ⟨t.val, t.isLt⟩ r ⟨4096 + l.val, by omega⟩) := by
  blk_simp [iblk]
  rw [entry_arg0]
  refine congrArg _ ?_
  blk_ext [idx t]

/-- the keys', -/
theorem block_k (r : Fin 2048) (l : Fin 512) :
    iblk m c 1 t (ix3 0 r l) = m ((c : Thread nD τ).loc main_arg0) (ix3 ⟨t.val, t.isLt⟩ r ⟨4608 + l.val, by omega⟩) := by
  blk_simp [iblk]
  rw [entry_arg0]
  refine congrArg _ ?_
  blk_ext [idx t]

/-- the values', -/
theorem block_v (r : Fin 2048) (l : Fin 1024) :
    X0_2 m c t (ix3 0 r l) = m ((c : Thread nD τ).loc main_arg0) (ix3 ⟨t.val, t.isLt⟩ r ⟨2048 + l.val, by omega⟩) := by
  unfold X0_2 Pipeline.Window.fill
  rw [dif_pos (moved0_2 t _)]
  blk_simp [iblk]
  rw [entry_arg0]
  refine congrArg _ ?_
  blk_ext [idx t]

/-- the gates'. -/
theorem block_g (r : Fin 2048) (l : Fin 1024) :
    X0_3 m c t (ix3 0 r l) = m ((c : Thread nD τ).loc main_arg0) (ix3 ⟨t.val, t.isLt⟩ r ⟨3072 + l.val, by omega⟩) := by
  unfold X0_3 Pipeline.Window.fill
  rw [dif_pos (moved0_3 t _)]
  blk_simp [iblk]
  rw [entry_arg0]
  refine congrArg _ ?_
  blk_ext [idx t]

/-- The table's block. -/
theorem block_tab (r : Fin 2048) (l : Fin 384) :
    iblk m c 4 t (ix3 0 r l) = tabOf (A_main_v18 (F := Ideal) (m ((c : Thread nD τ).loc main_arg0)) (m ((c : Thread nD τ).loc main_arg1)))
      (A_main_v19 (F := Ideal) (m ((c : Thread nD τ).loc main_arg0)) (m ((c : Thread nD τ).loc main_arg1))) (ix3 ⟨t.val, t.isLt⟩ r l) := by
  blk_simp [iblk]
  rw [entry_tab]
  refine congrArg _ ?_
  blk_ext [idx t]

/-- The decays. -/
theorem block_decay (h : Fin 8) (i j : Fin 128) : iblk m c 5 t (ix3 h i j) = K_main_v80 (F := Ideal) (ix3 h i j) := by
  blk_simp [iblk]
  rw [entry_decay]
  refine congrArg (K_main_v80 (F := Ideal)) ?_
  blk_ext [idx t]

/-- What a key weighs in the state its chunk leaves, by pairs of heads, a head's value on its 64 lanes. -/
theorem block_zeta (j : Fin 4) (i L : Fin 128) :
    iblk m c 6 t (ix3 j i L) = K_main_v88 (F := Ideal) (ix2 ⟨2 * j.val + L.val / 64, by omega⟩ i) := by
  blk_simp [iblk]
  rw [entry_zeta]
  generalize K_main_v88 (F := Ideal) = Z
  refine (congrArg _ (show _ = ix3 j i L from ?_)).trans ?_
  · blk_ext [idx t]
  · pointwise
    simp only [Nat.mul_comm 2 j.val]

/-- What the state weighs in a row's output, on every lane. -/
theorem block_xi (h : Fin 8) (i e : Fin 128) : iblk m c 7 t (ix3 h i e) = K_main_v96 (F := Ideal) (ix2 h i) := by
  blk_simp [iblk]
  rw [entry_xi]
  generalize K_main_v96 (F := Ideal) = Z
  refine (congrArg _ (show _ = ix3 h i e from ?_)).trans ?_
  · blk_ext [idx t]
  · pointwise

/-- A chunk's decay of the state, by pairs of heads, a head's value on its 64 rows. -/
theorem block_gch (j : Fin 4) (L e : Fin 128) :
    iblk m c 8 t (ix3 j L e) = K_main_v99 (F := Ideal) (ix1 ⟨2 * j.val + L.val / 64, by omega⟩) := by
  blk_simp [iblk]
  rw [entry_gch]
  generalize K_main_v99 (F := Ideal) = Z
  refine (congrArg _ (show _ = ix3 j L e from ?_)).trans ?_
  · blk_ext [idx t]
  · pointwise
    simp only [Nat.mul_comm 2 j.val]

/-- The gains. -/
theorem block_gain (l : Fin 1024) : iblk m c 9 t (ix2 0 l) = m ((c : Thread nD τ).loc main_arg2) (ix1 l) := by
  blk_simp [iblk]
  rw [entry_gain]
  generalize m ((c : Thread nD τ).loc main_arg2) = Z
  refine (congrArg _ (show _ = ix2 0 l from ?_)).trans ?_
  · blk_ext [idx t]
  · pointwise

end Cert.Proof.Ret
-- ==== Proof.Ret.Chunk.lean ====
/-
One chunk of the retention launch: what it stores, written once for every head and every pair of heads.

The body writes its eight heads and four pairs of heads out one after the other. They are the same computation at
other columns, so here the computation is named once and the chunk's stores are the eight and the four instances.
-/
module

public import proofs.«01_k».proof.Proof.Ret.Run

@[expose] public section

set_option maxRecDepth 16384

noncomputable section

namespace Cert.Proof.Ret

open Cert.KernelIdeal Cert.KernelIdeal.Gen
open Idealize.ShloMosaic Idealize.ShloMosaic.TcCoe

variable {F : FTy → Type} [FloatOps F]

/-- Where head `h`'s 128 columns of chunk `k` begin in an array of eight heads. -/
def headOff (h : Fin 8) (k : Fin k0_t1_loop.trips) : Fin 3 → ℕ :=
  (![k0_off3 k, k0_off4 k, k0_off6 k, k0_off7 k, k0_off9 k, k0_off10 k, k0_off12 k, k0_off13 k] : Fin 8 → Fin 3 → ℕ) h

/-- Where pair `j`'s 128 columns of chunk `k` begin in an array of four pairs. -/
def pairOff (j : Fin 4) (k : Fin k0_t1_loop.trips) : Fin 3 → ℕ :=
  (![k0_off2 k, k0_off5 k, k0_off8 k, k0_off11 k] : Fin 4 → Fin 3 → ℕ) j

theorem headOff_eq : ∀ h k, headOff h k = ![0, 128 * k.val, 128 * h.val] := by decide +kernel
theorem pairOff_eq : ∀ j k, pairOff j k = ![0, 128 * k.val, 128 * j.val] := by decide +kernel
theorem headOff_inb : ∀ h k, ∀ a, headOff h k a + S1x128x128.size a ≤ S1x2048x1024.size a := by decide +kernel
theorem pairOff_inb : ∀ j k, ∀ a, pairOff j k a + S1x128x128.size a ≤ S1x2048x512.size a := by decide +kernel
theorem eight_inb : ∀ h : Fin 8, ∀ a, (![h.val, 0, 0] : Fin 3 → ℕ) a + S1x128x128.size a ≤ S8x128x128.size a := by decide
theorem four_inb : ∀ j : Fin 4, ∀ a, (![j.val, 0, 0] : Fin 3 → ℕ) a + S1x128x128.size a ≤ S4x128x128.size a := by decide
theorem gain_inb : ∀ h : Fin 8, ∀ a, (![0, 128 * h.val] : Fin 2 → ℕ) a + S1x128.size a ≤ S1x1024.size a := by decide

/-- Head `h`'s 128 columns of chunk `k`. -/
abbrev headRect (h : Fin 8) (k : Fin k0_t1_loop.trips) : Rect S1x2048x1024 :=
  Rect.unit (headOff h k) S1x128x128.size (headOff_inb h k)
/-- Pair `j`'s 128 columns of chunk `k`. -/
abbrev pairRect (j : Fin 4) (k : Fin k0_t1_loop.trips) : Rect S1x2048x512 :=
  Rect.unit (pairOff j k) S1x128x128.size (pairOff_inb j k)
/-- Table number `h` of eight. -/
abbrev eightRect (h : Fin 8) : Rect S8x128x128 := Rect.unit ![h.val, 0, 0] S1x128x128.size (eight_inb h)
/-- Table number `j` of four. -/
abbrev fourRect (j : Fin 4) : Rect S4x128x128 := Rect.unit ![j.val, 0, 0] S1x128x128.size (four_inb j)
/-- Head `h`'s 128 gains. -/
abbrev gainRect (h : Fin 8) : Rect S1x1024 := Rect.unit ![0, 128 * h.val] S1x128.size (gain_inb h)
/-- Chunk `k`'s rows of the rope's tables. -/
abbrev tabRect (k : Fin k0_t1_loop.trips) : Rect S1x2048x384 := Rect.unit (k0_off1 k) S1x128x384.size (k0_off1_inb k)

/-- The pair a head belongs to. -/
def pairOf (h : Fin 8) : Fin 4 := ⟨h.val / 2, by omega⟩

/-- The lanes of a head within its pair: the lower 64 for an even head, the upper 64 for an odd one. -/
def lanesOf (h : Fin 8) : IVec S128x128 1 :=
  (![k0_pay2, xori k0_pay2 (constantI S128x128 1 1#1)] : Fin 2 → IVec S128x128 1) ⟨h.val % 2, by omega⟩

/-- A head's output before the norm: the masked queries against the masked keys, weighed by the decays, times the
values, and the masked queries against the running state, weighed by `xi`. -/
def headOut (mask : IVec S128x128 1) (q k : FVec F S128x128 .f32) (st : FVec F S128x128 .bf16)
    (v : Vec F S1x128x128 .bf16) (dec xi : Vec F S1x128x128 .f32) : FVec F S128x128 .f32 :=
  addf
    (matmul dot_S128x128_S128x128_S128x128_1_0_0_1_n_n none
      (truncf .bf16 (mulf
        (matmul dot_S128x128_S128x128_S128x128_1_1_0_0_n_n none
          (truncf .bf16 (select mask q (broadcast S128x128 (Scalar.ofBits .f32 0x00000000#32))) bitsLt_bf16_f32)
          (truncf .bf16 (select mask k (broadcast S128x128 (Scalar.ofBits .f32 0x00000000#32))) bitsLt_bf16_f32)
          (constant S128x128 .f32 0x00000000#32))
        (shapeCast S128x128 dec shapeCasts_S1x128x128_S128x128)) bitsLt_bf16_f32)
      (k0_pay15 v) (constant S128x128 .f32 0x00000000#32))
    (mulf
      (matmul dot_S128x128_S128x128_S128x128_1_0_0_1_n_n none
        (truncf .bf16 (select mask q (broadcast S128x128 (Scalar.ofBits .f32 0x00000000#32))) bitsLt_bf16_f32)
        st (constant S128x128 .f32 0x00000000#32))
      (shapeCast S128x128 xi shapeCasts_S1x128x128_S128x128))

variable (arg1 : Memref sig .tc .vmem S1x2048x512 .bf16) (arg2 : Memref sig .tc .vmem S1x2048x512 .bf16)
  (arg3 : Memref sig .tc .vmem S1x2048x1024 .bf16) (arg4 : Memref sig .tc .vmem S1x2048x1024 .bf16)
  (arg5 : Memref sig .tc .vmem S1x2048x384 .f32) (arg6 : Memref sig .tc .vmem S8x128x128 .f32)
  (arg7 : Memref sig .tc .vmem S4x128x128 .f32) (arg8 : Memref sig .tc .vmem S8x128x128 .f32)
  (arg9 : Memref sig .tc .vmem S4x128x128 .f32) (arg10 : Memref sig .tc .vmem S1x1024 .f32)
  (arg11 : Memref sig .tc .vmem S1x2048x1024 .bf16) (arg12 : Memref sig .tc .vmem S4x128x128 .f32)
  (X1 : BufTy.Contents (Elt F) arg1.view.ty) (X2 : BufTy.Contents (Elt F) arg2.view.ty)
  (X3 : BufTy.Contents (Elt F) arg3.view.ty) (X4 : BufTy.Contents (Elt F) arg4.view.ty)
  (X5 : BufTy.Contents (Elt F) arg5.view.ty) (X6 : BufTy.Contents (Elt F) arg6.view.ty)
  (X7 : BufTy.Contents (Elt F) arg7.view.ty) (X8 : BufTy.Contents (Elt F) arg8.view.ty)
  (X9 : BufTy.Contents (Elt F) arg9.view.ty) (X10 : BufTy.Contents (Elt F) arg10.view.ty)
  (k : Fin k0_t1_loop.trips) (g : BufTy.Contents (Elt F) arg12.view.ty)

/-- The chunk's rows of the rope's tables. -/
def tabAt : FVec F S128x384 .f32 := k0_pay5 (View.readAt (Elt F) arg5.view (tabRect k).toLoadRect X5)
/-- Pair `j`'s rotated queries. -/
def queryAt (j : Fin 4) : FVec F S128x128 .f32 :=
  k0_pay20 (tabAt arg5 X5 k) (View.readAt (Elt F) arg1.view (pairRect j k).toLoadRect X1)
/-- Pair `j`'s rotated and scaled keys. -/
def keyAt (j : Fin 4) : FVec F S128x128 .f32 :=
  k0_pay21 (tabAt arg5 X5 k) (View.readAt (Elt F) arg2.view (pairRect j k).toLoadRect X2)
/-- Pair `j`'s keys weighed by `zeta`, one lane a row. -/
def zetaAt (j : Fin 4) : FVec F S128x128 .bf16 :=
  k0_pay22 (tabAt arg5 X5 k) (View.readAt (Elt F) arg2.view (pairRect j k).toLoadRect X2)
    (View.readAt (Elt F) arg7.view (fourRect j).toLoadRect X7)
/-- Pair `j`'s running state as the chunk finds it. -/
def foundAt (j : Fin 4) : Vec F S1x128x128 .f32 := View.readAt (Elt F) arg12.view (fourRect j).toLoadRect g
/-- Head `h`'s values. -/
def valueAt (h : Fin 8) : Vec F S1x128x128 .bf16 := View.readAt (Elt F) arg3.view (headRect h k).toLoadRect X3

/-- What the chunk stores of head `h`. -/
def headPiece (h : Fin 8) : FVec F S1x128x128 .bf16 :=
  k0_pay18 (headOut (lanesOf h) (queryAt arg1 arg5 X1 X5 k (pairOf h)) (keyAt arg2 arg5 X2 X5 k (pairOf h))
      (k0_pay10 (foundAt arg12 g (pairOf h))) (valueAt arg3 X3 k h)
      (View.readAt (Elt F) arg6.view (eightRect h).toLoadRect X6) (View.readAt (Elt F) arg8.view (eightRect h).toLoadRect X8))
    (View.readAt (Elt F) arg10.view (gainRect h).toLoadRect X10)
    (View.readAt (Elt F) arg4.view (headRect h k).toLoadRect X4)

/-- What the chunk leaves of pair `j`'s running state. -/
def pairPiece (j : Fin 4) : FVec F S1x128x128 .f32 :=
  k0_pay19 (k0_pay9 (foundAt arg12 g j))
    (k0_pay12 (zetaAt arg2 arg5 arg7 X2 X5 X7 k j) (valueAt arg3 X3 k ⟨2 * j.val, by omega⟩))
    (k0_pay17 (zetaAt arg2 arg5 arg7 X2 X5 X7 k j) (valueAt arg3 X3 k ⟨2 * j.val + 1, by omega⟩))
    (View.readAt (Elt F) arg9.view (fourRect j).toLoadRect X9)

/-- The chunk's stores into the output block, the last one first. -/
def headPieces : List (View.Piece (Elt F) S1x2048x1024 .bf16) :=
  [7, 6, 5, 4, 3, 2, 1, 0].map fun h : Fin 8 =>
    ⟨headRect h k, headPiece arg1 arg2 arg3 arg4 arg5 arg6 arg8 arg10 arg12 X1 X2 X3 X4 X5 X6 X8 X10 k g h⟩

/-- The chunk's stores into the state, the last one first. -/
def pairPieces : List (View.Piece (Elt F) S4x128x128 .f32) :=
  [3, 2, 1, 0].map fun j : Fin 4 => ⟨fourRect j, pairPiece arg2 arg3 arg5 arg7 arg9 arg12 X2 X3 X5 X7 X9 k g j⟩

variable (c : Dev nD) (i : grid0.Coords) (harg1 : arg1.IsWhole) (harg2 : arg2.IsWhole) (harg3 : arg3.IsWhole)
  (harg4 : arg4.IsWhole) (harg5 : arg5.IsWhole) (harg6 : arg6.IsWhole) (harg7 : arg7.IsWhole) (harg8 : arg8.IsWhole)
  (harg9 : arg9.IsWhole) (harg10 : arg10.IsWhole) (harg11 : arg11.IsWhole) (harg12 : arg12.IsWhole)
  (f : BufTy.Contents (Elt F) arg11.view.ty)

set_option maxHeartbeats 4000000 in
/-- A chunk's stores into the state are the four pairs'. -/
theorem chunk_pairs : (tripL_k0_t1 (F := F) Variants.none c none i arg1 harg1 arg2 harg2 arg3 harg3 arg4 harg4 arg5 harg5
      arg6 harg6 arg7 harg7 arg8 harg8 arg9 harg9 arg10 harg10 arg11 harg11 arg12 harg12 X1 X2 X3 X4 X5 X6 X7 X8 X9 X10 k f g).2
    = pairPieces arg2 arg3 arg5 arg7 arg9 arg12 X2 X3 X5 X7 X9 k g := by
  unfold tripL_k0_t1 trip_k0_t1
  rfl

set_option maxHeartbeats 4000000 in
/-- A chunk's stores into the output block are the eight heads'. -/
theorem chunk_heads : (tripL_k0_t1 (F := F) Variants.none c none i arg1 harg1 arg2 harg2 arg3 harg3 arg4 harg4 arg5 harg5
      arg6 harg6 arg7 harg7 arg8 harg8 arg9 harg9 arg10 harg10 arg11 harg11 arg12 harg12 X1 X2 X3 X4 X5 X6 X7 X8 X9 X10 k f g).1
    = headPieces arg1 arg2 arg3 arg4 arg5 arg6 arg8 arg10 arg12 X1 X2 X3 X4 X5 X6 X8 X10 k g := by
  unfold tripL_k0_t1 trip_k0_t1
  rfl

end Cert.Proof.Ret
-- ==== Proof.Ret.Spec.lean ====
/-
The retention's mathematics for one batch row, one head and one chunk of 128 rows, entry by entry.
-/
module

public import Idealize.ShloMosaic.Lib.Pointwise

@[expose] public section

noncomputable section

namespace Cert.Proof.Ret

open Idealize.ShloMosaic

/-- A row of 64 lanes rotated: lane `d` of the lower half paired with lane `d + 32`. -/
def turned (x : Fin 64 → EReal) (co si : Fin 32 → EReal) (d : Fin 64) : EReal :=
  if h : d.val < 32 then x d * co ⟨d.val, h⟩ - x ⟨32 + d.val, by omega⟩ * si ⟨d.val, h⟩
    else x d * co ⟨d.val - 32, by omega⟩ + x ⟨d.val - 32, by omega⟩ * si ⟨d.val - 32, by omega⟩

/-- A head's output before the norm: its chunk's keys and values, weighed by the decays, and the state it finds. -/
def seen (q k : Fin 128 → Fin 64 → EReal) (v dec xi : Fin 128 → Fin 128 → EReal) (S : Fin 64 → Fin 128 → EReal)
    (i e : Fin 128) : EReal :=
  (∑ j : Fin 128, (∑ d : Fin 64, q i d * k j d) * dec i j * v j e) + (∑ d : Fin 64, q i d * S d e) * xi i e

/-- The state a chunk leaves: the one it finds, decayed, and the chunk's keys times its values. -/
def carried (k : Fin 128 → Fin 64 → EReal) (v : Fin 128 → Fin 128 → EReal) (zeta : Fin 128 → Fin 64 → EReal)
    (gc S : Fin 64 → Fin 128 → EReal) (d : Fin 64) (e : Fin 128) : EReal :=
  gc d e * S d e + ∑ j : Fin 128, k j d * zeta j d * v j e

/-- The mean of 128 entries. -/
def mean (o : Fin 128 → EReal) : EReal := Ideal.div (∑ e : Fin 128, o e) (Ideal.ofBits FTy.f32 0x43000000#32)

/-- A head's row normed, with its gains, times the gate. -/
def settled (o gain gate : Fin 128 → EReal) (e : Fin 128) : EReal :=
  (o e - mean o) * Ideal.rsqrt (mean (fun l => (o l - mean o) * (o l - mean o)) + Ideal.ofBits FTy.f32 0x3727C5AC#32)
    * gain e * (gate e * Ideal.logistic (gate e))

/-- A sum over 128 lanes that keeps one half of them is the sum over that half. -/
theorem sum_half (p : ℕ) (hp : p < 2) (f : Fin 128 → EReal) :
    ∑ L : Fin 128, (if L.val / 64 = p then f L else 0) = ∑ d : Fin 64, f ⟨64 * p + d.val, by omega⟩ := by
  rw [← Finset.sum_filter]
  symm
  refine Finset.sum_bij (fun d _ => ⟨64 * p + d.val, by omega⟩) (fun d _ => ?_) (fun a _ b _ h => ?_) (fun L hL => ?_) fun _ _ => rfl
  · simp only [Finset.mem_filter, Finset.mem_univ, true_and]; omega
  · have := congrArg Fin.val h; dsimp only at this; exact Fin.ext (by omega)
  · simp only [Finset.mem_filter, Finset.mem_univ, true_and] at hL
    exact ⟨⟨L.val % 64, by omega⟩, Finset.mem_univ _, Fin.ext (by dsimp only; omega)⟩

end Cert.Proof.Ret
-- ==== Proof.Ret.ChunkAt.lean ====
/-
One chunk of the retention launch, entry by entry.
-/
module

public import proofs.«01_k».proof.Proof.Ret.Chunk
public import proofs.«01_k».proof.Proof.Ret.Spec
public import Idealize.ShloMosaic.Lib.Pipeline.ValueKit

@[expose] public section

set_option maxRecDepth 16384

noncomputable section

namespace Cert.Proof.Ret

open Cert.KernelIdeal Cert.KernelIdeal.Gen
open Idealize.ShloMosaic Idealize.ShloMosaic.TcCoe

/-- Lane `d` of head `h` within its pair. -/
def laneOf (h : Fin 8) (d : Fin 64) : Fin 128 := ⟨64 * (h.val % 2) + d.val, by omega⟩

theorem lower_lanes : ∀ L : Fin 128, IntOp.cmpi .slt (BitVec.ofNat 32 L.val) 64#32 = if L.val / 64 = 0 then 1#1 else 0#1 := by decide
theorem upper_lanes : ∀ L : Fin 128, IntOp.xori (IntOp.cmpi .slt (BitVec.ofNat 32 L.val) 64#32) 1#1 = if L.val / 64 = 1 then 1#1 else 0#1 := by
  decide

/-- A head's lanes. -/
theorem lanes_at (h : Fin 8) (i L : Fin 128) : lanesOf h (ix2 i L) = if L.val / 64 = h.val % 2 then 1#1 else 0#1 := by
  rcases Nat.mod_two_eq_zero_or_one h.val with e | e
  · have : lanesOf h = k0_pay2 := by unfold lanesOf; simp only [e]; rfl
    rw [this, e]
    pointwise [k0_pay2]
    exact lower_lanes L
  · have : lanesOf h = xori k0_pay2 (constantI S128x128 1 1#1) := by unfold lanesOf; simp only [e]; rfl
    rw [this, e]
    pointwise [k0_pay2]
    exact upper_lanes L

/-- A sum over the lanes that a head's mask keeps is the sum over the head's lanes. -/
theorem sum_lanes (h : Fin 8) (M : Fin 128 → BitVec 1) (hM : ∀ L, M L = if L.val / 64 = h.val % 2 then 1#1 else 0#1) (f : Fin 128 → EReal) :
    ∑ L : Fin 128, Scalar.select (M L) (f L) 0 = ∑ d : Fin 64, f (laneOf h d) := by
  refine Eq.trans (Finset.sum_congr rfl fun L _ => ?_) (sum_half (h.val % 2) (by omega) f)
  rw [hM L]
  split <;> rfl

/-- A head's output before the norm, at an index. -/
theorem headOut_at (h : Fin 8) (q k : FVec Ideal S128x128 .f32) (st : FVec Ideal S128x128 .bf16)
    (v : Vec Ideal S1x128x128 .bf16) (dec xi : Vec Ideal S1x128x128 .f32) (i e : Fin 128) :
    headOut (F := Ideal) (lanesOf h) q k st v dec xi (ix2 i e)
      = seen (fun i d => q (ix2 i (laneOf h d))) (fun i d => k (ix2 i (laneOf h d))) (fun j e => v (ix3 0 j e))
          (fun i j => dec (ix3 0 i j)) (fun i e => xi (ix3 0 i e)) (fun d e => st (ix2 (laneOf h d) e)) i e := by
  have hl := lanes_at h
  generalize lanesOf h = M at *
  pointwise [headOut, k0_pay15, seen]
  rw [sum_lanes h (fun L => M (ix2 i L)) (hl i) fun L => q (ix2 i L) * st (ix2 L e)]
  refine congrArg (· + _) (Finset.sum_congr rfl fun j _ => ?_)
  rw [sum_lanes h (fun L => M (ix2 j L)) (hl j) fun L => Scalar.select (M (ix2 i L)) (q (ix2 i L) * k (ix2 j L)) 0]
  refine congrArg (· * _ * _) (Finset.sum_congr rfl fun d _ => ?_)
  rw [hl i, if_pos (by unfold laneOf; dsimp only; omega)]
  rfl

/-- A head's row normed and gated, at an index. -/
theorem norm_at (o : FVec Ideal S128x128 .f32) (gn : Vec Ideal S1x128 .f32) (g : Vec Ideal S1x128x128 .bf16) (i e : Fin 128) :
    k0_pay18 (F := Ideal) o gn g (ix3 0 i e)
      = settled (fun e => o (ix2 i e)) (fun e => gn (ix2 0 e)) (fun e => g (ix3 0 i e)) e := by
  pointwise [k0_pay18, settled, mean]

/-- The state a chunk leaves of a pair, at an index. -/
theorem state_at (st : Vec Ideal S1x128x128 .f32) (kz : FVec Ideal S128x128 .bf16) (v0 v1 : Vec Ideal S1x128x128 .bf16)
    (gc : Vec Ideal S1x128x128 .f32) (L e : Fin 128) :
    k0_pay19 (F := Ideal) (k0_pay9 st) (k0_pay12 kz v0) (k0_pay17 kz v1) gc (ix3 0 L e)
      = gc (ix3 0 L e) * st (ix3 0 L e)
        + ∑ j : Fin 128, kz (ix2 L j) * (if L.val < 64 then v0 (ix3 0 j e) else v1 (ix3 0 j e)) := by
  pointwise [k0_pay19, k0_pay9, k0_pay12, k0_pay17, k0_pay11, k0_pay15]
  refine congrArg (gc (ix3 0 L e) * st (ix3 0 L e) + ·) ?_
  by_cases h : L.val < 64
  · simp only [dif_pos h, if_pos h]
  · simp only [dif_neg h, if_neg h]
    have e : (⟨64 + (L.val - 64), by omega⟩ : Fin 128) = L := Fin.ext (by dsimp only; omega)
    simp only [e]

/-- The weighed keys, at an index. -/
theorem zeta_at (t : FVec Ideal S128x384 .f32) (x : Vec Ideal S1x128x128 .bf16) (z : Vec Ideal S1x128x128 .f32) (L j : Fin 128) :
    k0_pay22 (F := Ideal) t x z (ix2 L j) = k0_pay21 t x (ix2 j L) * z (ix3 0 j L) := by
  generalize hk : k0_pay21 t x = K
  pointwise [k0_pay22, hk]

/-- The scaled keys are the rotated keys times a constant. -/
theorem key_at (t : FVec Ideal S128x384 .f32) (x : Vec Ideal S1x128x128 .bf16) (i L : Fin 128) :
    k0_pay21 (F := Ideal) t x (ix2 i L) = k0_pay20 t x (ix2 i L) * Ideal.ofBits FTy.f32 0x3E000000#32 := by
  pointwise [k0_pay21, k0_pay20]

/-- A pair's rotated rows, at a head's lane: the head's row of 64 lanes, rotated. -/
theorem rot_at (t : Vec Ideal S1x128x384 .f32) (x : Vec Ideal S1x128x128 .bf16) (i : Fin 128) (co si : Fin 32 → EReal)
    (hc : ∀ L : Fin 128, t (ix3 0 i ⟨L.val, by omega⟩) = co ⟨L.val % 32, by omega⟩)
    (hs : ∀ L : Fin 128, t (ix3 0 i ⟨128 + L.val, by omega⟩) = if L.val % 64 < 32 then 0 else si ⟨L.val % 32, by omega⟩)
    (hn : ∀ L : Fin 128, t (ix3 0 i ⟨256 + L.val, by omega⟩) = if L.val % 64 < 32 then -si ⟨L.val % 32, by omega⟩ else 0)
    (h : Fin 8) (d : Fin 64) :
    k0_pay20 (F := Ideal) (k0_pay5 t) x (ix2 i (laneOf h d)) = turned (fun d => x (ix3 0 i (laneOf h d))) co si d := by
  pointwise [k0_pay20, k0_pay5]
  rw [hc, hs, hn]
  have hm : (laneOf h d).val % 64 = d.val := by unfold laneOf; dsimp only; omega
  have hv : (laneOf h d).val = 64 * (h.val % 2) + d.val := rfl
  unfold turned
  by_cases hd : d.val < 32
  · rw [dif_pos hd, if_pos (by omega), if_pos (by omega), mul_zero, add_zero, sub_eq_add_neg, mul_neg]
    have e1 : (⟨(laneOf h d).val % 32, by omega⟩ : Fin 32) = ⟨d.val, hd⟩ := Fin.ext (by dsimp only; omega)
    have e2 : (⟨((laneOf h d).val + 128 - 96) % 128, by omega⟩ : Fin 128) = laneOf h ⟨32 + d.val, by omega⟩ :=
      Fin.ext (by unfold laneOf; dsimp only; omega)
    rw [e1, e2]
  · rw [dif_neg hd, if_neg (by omega), if_neg (by omega), mul_zero, add_zero]
    have e1 : (⟨(laneOf h d).val % 32, by omega⟩ : Fin 32) = ⟨d.val - 32, by omega⟩ := Fin.ext (by dsimp only; omega)
    have e2 : (⟨((laneOf h d).val + 128 - 32) % 128, by omega⟩ : Fin 128) = laneOf h ⟨d.val - 32, by omega⟩ :=
      Fin.ext (by unfold laneOf; dsimp only; omega)
    rw [e1, e2]

end Cert.Proof.Ret
-- ==== Proof.Ret.Row.lean ====
/-
The retention of one batch row: the state of every head chunk by chunk, and the row of results.
-/
module

public import proofs.«01_k».proof.Proof.Ret.Spec

@[expose] public section

noncomputable section

namespace Cert.Proof.Ret

open Idealize.ShloMosaic

/-- What the retention of one batch row is made of: queries, keys, values and gates as projected, the rotation's
cosines and sines, the weights of the chunks, and the gains. -/
structure Row where
  q : Fin 2048 → Fin 512 → EReal
  k : Fin 2048 → Fin 512 → EReal
  v : Fin 2048 → Fin 1024 → EReal
  g : Fin 2048 → Fin 1024 → EReal
  co : Fin 2048 → Fin 32 → EReal
  si : Fin 2048 → Fin 32 → EReal
  dec : Fin 8 → Fin 128 → Fin 128 → EReal
  zeta : Fin 8 → Fin 128 → EReal
  xi : Fin 8 → Fin 128 → EReal
  gch : Fin 8 → EReal
  gain : Fin 1024 → EReal

/-- Row `i` of chunk `n`. -/
def rowOf (n : ℕ) (i : Fin 128) : Fin 2048 := ⟨(128 * n + i.val) % 2048, Nat.mod_lt _ (by decide)⟩

theorem rowOf_val (n : ℕ) (hn : n < 16) (i : Fin 128) : rowOf n i = ⟨128 * n + i.val, by omega⟩ :=
  Fin.ext (Nat.mod_eq_of_lt (by omega))

/-- Lane `d` of head `h` among eight heads of 64 lanes. -/
def lane64 (h : Fin 8) (d : Fin 64) : Fin 512 := ⟨64 * h.val + d.val, by omega⟩
/-- Lane `e` of head `h` among eight heads of 128 lanes. -/
def lane128 (h : Fin 8) (e : Fin 128) : Fin 1024 := ⟨128 * h.val + e.val, by omega⟩

variable (R : Row)

/-- A chunk's queries of a head. -/
def Row.Q (h : Fin 8) (n : ℕ) (i : Fin 128) (d : Fin 64) : EReal :=
  turned (fun d => R.q (rowOf n i) (lane64 h d)) (R.co (rowOf n i)) (R.si (rowOf n i)) d
/-- A chunk's keys of a head. -/
def Row.K (h : Fin 8) (n : ℕ) (i : Fin 128) (d : Fin 64) : EReal :=
  turned (fun d => R.k (rowOf n i) (lane64 h d)) (R.co (rowOf n i)) (R.si (rowOf n i)) d * Ideal.ofBits FTy.f32 0x3E000000#32
/-- A chunk's values of a head. -/
def Row.V (h : Fin 8) (n : ℕ) (i e : Fin 128) : EReal := R.v (rowOf n i) (lane128 h e)

/-- A head's state before chunk `n`. -/
def Row.state (h : Fin 8) : ℕ → Fin 64 → Fin 128 → EReal
  | 0 => fun _ _ => 0
  | n + 1 => carried (R.K h n) (R.V h n) (fun j _ => R.zeta h j) (fun _ _ => R.gch h) (Row.state h n)

/-- A head's output of chunk `n` before the norm. -/
def Row.out (h : Fin 8) (n : ℕ) : Fin 128 → Fin 128 → EReal :=
  seen (R.Q h n) (R.K h n) (R.V h n) (R.dec h) (fun i _ => R.xi h i) (R.state h n)

/-- The result of chunk `n`'s row `i`, head `h`, lane `e`. -/
def Row.piece (h : Fin 8) (n : ℕ) (i e : Fin 128) : EReal :=
  settled (R.out h n i) (fun e => R.gain (lane128 h e)) (fun e => R.g (rowOf n i) (lane128 h e)) e

/-- The result at a row and a column. -/
def Row.result (r : Fin 2048) (l : Fin 1024) : EReal :=
  R.piece ⟨l.val / 128, by omega⟩ (r.val / 128) ⟨r.val % 128, by omega⟩ ⟨l.val % 128, by omega⟩

theorem Row.result_piece (h : Fin 8) (n : ℕ) (hn : n < 16) (i e : Fin 128) :
    R.result (rowOf n i) (lane128 h e) = R.piece h n i e := by
  unfold Row.result
  rw [rowOf_val n hn i]
  have h1 : (⟨(lane128 h e).val / 128, by omega⟩ : Fin 8) = h := Fin.ext (by unfold lane128; dsimp only; omega)
  have h2 : (⟨(lane128 h e).val % 128, by omega⟩ : Fin 128) = e := Fin.ext (by unfold lane128; dsimp only; omega)
  have h3 : (128 * n + i.val) / 128 = n := by omega
  have h4 : (⟨(128 * n + i.val) % 128, by omega⟩ : Fin 128) = i := Fin.ext (by dsimp only; omega)
  rw [h1, h2]
  dsimp only
  rw [h3, h4]

end Cert.Proof.Ret
-- ==== Proof.Ret.Loop.lean ====
/-
The retention launch's loop over chunks, entry by entry: the state before every chunk, and what every piece stores.
-/
module

public import proofs.«01_k».proof.Proof.Ret.ChunkAt
public import proofs.«01_k».proof.Proof.Ret.Row
public import Idealize.ShloMosaic.Lib.Writes
public import Idealize.ShloMosaic.Lib.VecWindow

@[expose] public section

set_option maxRecDepth 16384

noncomputable section

namespace Cert.Proof.Ret

open Cert.KernelIdeal Cert.KernelIdeal.Gen
open Idealize.ShloMosaic Idealize.ShloMosaic.TcCoe

/-- A load's place in a rectangle is the rectangle's own. -/
theorem idx_emb {s : Shape} (r : Rect s) (x : r.shape.Idx) : r.toLoadRect.idx x = r.emb x := rfl

/-- There are sixteen chunks. -/
theorem trips_lt (k : Fin k0_t1_loop.trips) : k.val < 16 := lt_of_lt_of_eq k.isLt (by decide +kernel)

theorem tabOff_eq : ∀ k, k0_off1 k = ![0, 128 * k.val, 0] := by decide +kernel

theorem emb_head (h : Fin 8) (k : Fin k0_t1_loop.trips) (i e : Fin 128) :
    (headRect h k).emb (ix3 0 i e) = ix3 0 (rowOf k.val i) (lane128 h e) := by
  have hk := trips_lt k
  refine (headRect h k).emb_eq_of_coords _ _ fun a => ?_
  have ho : (headRect h k).off a = (![0, 128 * k.val, 128 * h.val] : Fin 3 → ℕ) a := congrFun (headOff_eq h k) a
  rw [ho, rowOf_val k.val hk i, show (headRect h k).stride a = 1 from rfl, Nat.one_mul]
  fin_cases a <;> rfl

theorem emb_pair (j : Fin 4) (k : Fin k0_t1_loop.trips) (i L : Fin 128) :
    (pairRect j k).emb (ix3 0 i L) = ix3 0 (rowOf k.val i) ⟨128 * j.val + L.val, by omega⟩ := by
  have hk := trips_lt k
  refine (pairRect j k).emb_eq_of_coords _ _ fun a => ?_
  have ho : (pairRect j k).off a = (![0, 128 * k.val, 128 * j.val] : Fin 3 → ℕ) a := congrFun (pairOff_eq j k) a
  rw [ho, rowOf_val k.val hk i, show (pairRect j k).stride a = 1 from rfl, Nat.one_mul]
  fin_cases a <;> rfl

theorem emb_tab (k : Fin k0_t1_loop.trips) (i : Fin 128) (L : Fin 384) :
    (tabRect k).emb (ix3 0 i L) = ix3 0 (rowOf k.val i) L := by
  have hk := trips_lt k
  refine (tabRect k).emb_eq_of_coords _ _ fun a => ?_
  have ho : (tabRect k).off a = (![0, 128 * k.val, 0] : Fin 3 → ℕ) a := congrFun (tabOff_eq k) a
  rw [ho, rowOf_val k.val hk i, show (tabRect k).stride a = 1 from rfl, Nat.one_mul]
  fin_cases a
  · rfl
  · rfl
  · exact (Nat.zero_add _).symm

theorem emb_eight (h : Fin 8) (i e : Fin 128) : (eightRect h).emb (ix3 0 i e) = ix3 h i e := by
  refine (eightRect h).emb_eq_of_coords _ _ fun a => ?_
  rw [show (eightRect h).stride a = 1 from rfl, Nat.one_mul]
  fin_cases a
  · rfl
  · exact (Nat.zero_add _).symm
  · exact (Nat.zero_add _).symm

theorem emb_four (j : Fin 4) (i e : Fin 128) : (fourRect j).emb (ix3 0 i e) = ix3 j i e := by
  refine (fourRect j).emb_eq_of_coords _ _ fun a => ?_
  rw [show (fourRect j).stride a = 1 from rfl, Nat.one_mul]
  fin_cases a
  · rfl
  · exact (Nat.zero_add _).symm
  · exact (Nat.zero_add _).symm

theorem emb_gain (h : Fin 8) (e : Fin 128) : (gainRect h).emb (ix2 0 e) = ix2 0 (lane128 h e) := by
  refine (gainRect h).emb_eq_of_coords _ _ fun a => ?_
  rw [show (gainRect h).stride a = 1 from rfl, Nat.one_mul]
  fin_cases a <;> rfl

/-- The ten operand blocks hold a batch row's data. -/
structure Blocks (R : Row) (x0 x1 : Vec Ideal S1x2048x512 .bf16) (x2 x3 : Vec Ideal S1x2048x1024 .bf16) (x4 : Vec Ideal S1x2048x384 .f32)
    (x5 : Vec Ideal S8x128x128 .f32) (x6 : Vec Ideal S4x128x128 .f32) (x7 : Vec Ideal S8x128x128 .f32) (x8 : Vec Ideal S4x128x128 .f32)
    (x9 : Vec Ideal S1x1024 .f32) : Prop where
  q : ∀ r l, x0 (ix3 0 r l) = R.q r l
  k : ∀ r l, x1 (ix3 0 r l) = R.k r l
  v : ∀ r l, x2 (ix3 0 r l) = R.v r l
  g : ∀ r l, x3 (ix3 0 r l) = R.g r l
  co : ∀ r (L : Fin 128), x4 (ix3 0 r ⟨L.val, by omega⟩) = R.co r ⟨L.val % 32, by omega⟩
  si : ∀ r (L : Fin 128), x4 (ix3 0 r ⟨128 + L.val, by omega⟩) = if L.val % 64 < 32 then 0 else R.si r ⟨L.val % 32, by omega⟩
  ns : ∀ r (L : Fin 128), x4 (ix3 0 r ⟨256 + L.val, by omega⟩) = if L.val % 64 < 32 then -R.si r ⟨L.val % 32, by omega⟩ else 0
  dec : ∀ h i j, x5 (ix3 h i j) = R.dec h i j
  zeta : ∀ (j : Fin 4) (i L : Fin 128), x6 (ix3 j i L) = R.zeta ⟨2 * j.val + L.val / 64, by omega⟩ i
  xi : ∀ h i e, x7 (ix3 h i e) = R.xi h i
  gch : ∀ (j : Fin 4) (L e : Fin 128), x8 (ix3 j L e) = R.gch ⟨2 * j.val + L.val / 64, by omega⟩
  gain : ∀ l, x9 (ix2 0 l) = R.gain l

variable (R : Row) (c : Dev nD) (i : grid0.Coords)
  (arg1 : Memref sig .tc .vmem S1x2048x512 .bf16) (harg1 : arg1.IsWhole)
  (arg2 : Memref sig .tc .vmem S1x2048x512 .bf16) (harg2 : arg2.IsWhole)
  (arg3 : Memref sig .tc .vmem S1x2048x1024 .bf16) (harg3 : arg3.IsWhole)
  (arg4 : Memref sig .tc .vmem S1x2048x1024 .bf16) (harg4 : arg4.IsWhole)
  (arg5 : Memref sig .tc .vmem S1x2048x384 .f32) (harg5 : arg5.IsWhole)
  (arg6 : Memref sig .tc .vmem S8x128x128 .f32) (harg6 : arg6.IsWhole)
  (arg7 : Memref sig .tc .vmem S4x128x128 .f32) (harg7 : arg7.IsWhole)
  (arg8 : Memref sig .tc .vmem S8x128x128 .f32) (harg8 : arg8.IsWhole)
  (arg9 : Memref sig .tc .vmem S4x128x128 .f32) (harg9 : arg9.IsWhole)
  (arg10 : Memref sig .tc .vmem S1x1024 .f32) (harg10 : arg10.IsWhole)
  (arg11 : Memref sig .tc .vmem S1x2048x1024 .bf16) (harg11 : arg11.IsWhole)
  (arg12 : Memref sig .tc .vmem S4x128x128 .f32) (harg12 : arg12.IsWhole)
  (x0 x1 : Vec Ideal S1x2048x512 .bf16) (x2 x3 : Vec Ideal S1x2048x1024 .bf16) (x4 : Vec Ideal S1x2048x384 .f32)
  (x5 : Vec Ideal S8x128x128 .f32) (x6 : Vec Ideal S4x128x128 .f32) (x7 : Vec Ideal S8x128x128 .f32) (x8 : Vec Ideal S4x128x128 .f32)
  (x9 : Vec Ideal S1x1024 .f32) (B : Blocks R x0 x1 x2 x3 x4 x5 x6 x7 x8 x9)
  (k : Fin k0_t1_loop.trips) (g : BufTy.Contents (Elt Ideal) arg12.view.ty)

theorem head_lane (h : Fin 8) (d : Fin 64) : (⟨128 * (pairOf h).val + (laneOf h d).val, by omega⟩ : Fin 512) = lane64 h d :=
  Fin.ext (by unfold pairOf laneOf lane64; dsimp only; omega)

theorem head_of_lane (h : Fin 8) (d : Fin 64) : (⟨2 * (pairOf h).val + (laneOf h d).val / 64, by have := (pairOf h).isLt; omega⟩ : Fin 8) = h :=
  Fin.ext (by unfold pairOf laneOf; dsimp only; omega)

include B

/-- A head's rotated queries in a chunk. -/
theorem query_lane (h : Fin 8) (i : Fin 128) (d : Fin 64) :
    queryAt arg1 arg5 (harg1.unread x0) (harg5.unread x4) k (pairOf h) (ix2 i (laneOf h d)) = R.Q h k.val i d := by
  unfold queryAt tabAt
  rw [rot_at _ _ i (R.co (rowOf k.val i)) (R.si (rowOf k.val i))]
  · unfold Row.Q
    refine congrArg (fun x => turned x (R.co (rowOf k.val i)) (R.si (rowOf k.val i)) d) (funext fun d => ?_)
    rw [View.readAt_apply, harg1.read_unread, idx_emb, emb_pair, B.q, head_lane]
  · intro L; rw [View.readAt_apply, harg5.read_unread, idx_emb, emb_tab, B.co]
  · intro L; rw [View.readAt_apply, harg5.read_unread, idx_emb, emb_tab, B.si]
  · intro L; rw [View.readAt_apply, harg5.read_unread, idx_emb, emb_tab, B.ns]

/-- A head's rotated keys in a chunk. -/
theorem key_lane (h : Fin 8) (i : Fin 128) (d : Fin 64) :
    keyAt arg2 arg5 (harg2.unread x1) (harg5.unread x4) k (pairOf h) (ix2 i (laneOf h d)) = R.K h k.val i d := by
  unfold keyAt tabAt
  rw [key_at, rot_at _ _ i (R.co (rowOf k.val i)) (R.si (rowOf k.val i))]
  · unfold Row.K
    refine congrArg (fun x => turned x (R.co (rowOf k.val i)) (R.si (rowOf k.val i)) d * _) (funext fun d => ?_)
    rw [View.readAt_apply, harg2.read_unread, idx_emb, emb_pair, B.k, head_lane]
  · intro L; rw [View.readAt_apply, harg5.read_unread, idx_emb, emb_tab, B.co]
  · intro L; rw [View.readAt_apply, harg5.read_unread, idx_emb, emb_tab, B.si]
  · intro L; rw [View.readAt_apply, harg5.read_unread, idx_emb, emb_tab, B.ns]

/-- A head's values in a chunk. -/
theorem value_lane (h : Fin 8) (i e : Fin 128) : valueAt arg3 (harg3.unread x2) k h (ix3 0 i e) = R.V h k.val i e := by
  unfold valueAt Row.V
  rw [View.readAt_apply, harg3.read_unread, idx_emb, emb_head, B.v]

/-- A head's weighed keys in a chunk. -/
theorem zeta_lane (h : Fin 8) (i : Fin 128) (d : Fin 64) :
    zetaAt arg2 arg5 arg7 (harg2.unread x1) (harg5.unread x4) (harg7.unread x6) k (pairOf h) (ix2 (laneOf h d) i)
      = R.K h k.val i d * R.zeta h i := by
  have hk := key_lane R arg2 harg2 arg5 harg5 x0 x1 x2 x3 x4 x5 x6 x7 x8 x9 B k h i d
  unfold keyAt at hk
  unfold zetaAt
  rw [zeta_at, hk, View.readAt_apply, harg7.read_unread, idx_emb, emb_four, B.zeta, head_of_lane]

/-- The state holds every head's state before chunk `n`. -/
def Holds (n : ℕ) (g : BufTy.Contents (Elt Ideal) arg12.view.ty) : Prop :=
  ∀ (h : Fin 8) (d : Fin 64) (e : Fin 128), arg12.view.read (Elt Ideal) g (ix3 (pairOf h) (laneOf h d) e) = R.state h n d e

variable (H : Holds R arg12 k.val g)
include H

/-- What a chunk leaves of a head's state. -/
theorem pair_lane (h : Fin 8) (d : Fin 64) (e : Fin 128) :
    pairPiece arg2 arg3 arg5 arg7 arg9 arg12 (harg2.unread x1) (harg3.unread x2) (harg5.unread x4) (harg7.unread x6) (harg9.unread x8) k g
      (pairOf h) (ix3 0 (laneOf h d) e) = R.state h (k.val + 1) d e := by
  unfold pairPiece
  rw [state_at]
  unfold Row.state carried foundAt
  rw [View.readAt_apply, harg9.read_unread, View.readAt_apply, idx_emb, emb_four, B.gch, head_of_lane, H]
  refine congrArg (R.gch h * R.state h k.val d e + ·) (Finset.sum_congr rfl fun j _ => ?_)
  rw [zeta_lane R arg2 harg2 arg5 harg5 arg7 harg7 x0 x1 x2 x3 x4 x5 x6 x7 x8 x9 B k,
    value_lane R arg3 harg3 x0 x1 x2 x3 x4 x5 x6 x7 x8 x9 B k, value_lane R arg3 harg3 x0 x1 x2 x3 x4 x5 x6 x7 x8 x9 B k]
  refine congrArg (R.K h k.val j d * R.zeta h j * ·) ?_
  rcases Nat.mod_two_eq_zero_or_one h.val with e0 | e0
  · rw [if_pos (by unfold laneOf; dsimp only; omega)]
    exact congrArg (fun h => R.V h k.val j e) (Fin.ext (by unfold pairOf; dsimp only; omega))
  · rw [if_neg (by unfold laneOf; dsimp only; omega)]
    exact congrArg (fun h => R.V h k.val j e) (Fin.ext (by unfold pairOf; dsimp only; omega))

/-- What a chunk stores of a head's results. -/
theorem head_lane_out (h : Fin 8) (i e : Fin 128) :
    headPiece arg1 arg2 arg3 arg4 arg5 arg6 arg8 arg10 arg12 (harg1.unread x0) (harg2.unread x1) (harg3.unread x2) (harg4.unread x3) (harg5.unread x4)
      (harg6.unread x5) (harg8.unread x7) (harg10.unread x9) k g h (ix3 0 i e) = R.piece h k.val i e := by
  unfold headPiece
  rw [norm_at]
  unfold Row.piece Row.out
  have h1 : ∀ e, headOut (lanesOf h) (queryAt arg1 arg5 (harg1.unread x0) (harg5.unread x4) k (pairOf h)) (keyAt arg2 arg5 (harg2.unread x1) (harg5.unread x4) k (pairOf h))
      (k0_pay10 (foundAt arg12 g (pairOf h))) (valueAt arg3 (harg3.unread x2) k h)
      (View.readAt (Elt Ideal) arg6.view (eightRect h).toLoadRect (harg6.unread x5)) (View.readAt (Elt Ideal) arg8.view (eightRect h).toLoadRect (harg8.unread x7)) (ix2 i e)
      = seen (R.Q h k.val) (R.K h k.val) (R.V h k.val) (R.dec h) (fun i _ => R.xi h i) (R.state h k.val) i e := by
    intro e
    rw [headOut_at]
    congr 1
    · funext i d; exact query_lane R arg1 harg1 arg5 harg5 x0 x1 x2 x3 x4 x5 x6 x7 x8 x9 B k h i d
    · funext i d; exact key_lane R arg2 harg2 arg5 harg5 x0 x1 x2 x3 x4 x5 x6 x7 x8 x9 B k h i d
    · funext i e; exact value_lane R arg3 harg3 x0 x1 x2 x3 x4 x5 x6 x7 x8 x9 B k h i e
    · funext i j; rw [View.readAt_apply, harg6.read_unread, idx_emb, emb_eight, B.dec]
    · funext i e; rw [View.readAt_apply, harg8.read_unread, idx_emb, emb_eight, B.xi]
    · funext d e
      rw [← H h d e, ← emb_four, ← idx_emb, ← View.readAt_apply]
      pointwise [k0_pay10, k0_pay9, foundAt]
  congr 1
  · funext e; exact h1 e
  · funext e; rw [View.readAt_apply, harg10.read_unread, idx_emb, emb_gain, B.gain]
  · funext e; rw [View.readAt_apply, harg4.read_unread, idx_emb, emb_head, B.g]

omit B H

/-- Every lane of every pair is some head's. -/
theorem exists_lane (j : Fin 4) (L : Fin 128) : ∃ h d, pairOf h = j ∧ laneOf h d = L :=
  ⟨⟨2 * j.val + L.val / 64, by omega⟩, ⟨L.val % 64, by omega⟩, Fin.ext (by unfold pairOf; dsimp only; omega),
    Fin.ext (by unfold laneOf; dsimp only; omega)⟩

/-- The head and the lane a place in the state belongs to. -/
def stateOf (n : ℕ) (y : S4x128x128.Idx) : EReal :=
  R.state ⟨2 * (y 0).val + (y 1).val / 64, by have : (y 0).val < 4 := (y 0).isLt; have : (y 1).val < 128 := (y 1).isLt; omega⟩ n
    ⟨(y 1).val % 64, by omega⟩ (y 2)

theorem stateOf_lane (n : ℕ) (h : Fin 8) (d : Fin 64) (e : Fin 128) : stateOf R n (ix3 (pairOf h) (laneOf h d) e) = R.state h n d e := by
  have hd : (⟨(laneOf h d).val % 64, by omega⟩ : Fin 64) = d := Fin.ext (by unfold laneOf; dsimp only; omega)
  show R.state ⟨2 * (pairOf h).val + (laneOf h d).val / 64, _⟩ n ⟨(laneOf h d).val % 64, _⟩ e = _
  rw [hd]
  exact congrArg (fun h => R.state h n d e) (head_of_lane h d)

include B in
/-- A chunk's stores into the state leave every head's next state. -/
theorem holds_step (H : Holds R arg12 k.val g) :
    Holds R arg12 (k.val + 1) (arg12.view.writes (Elt Ideal) g
      (pairPieces arg2 arg3 arg5 arg7 arg9 arg12 (harg2.unread x1) (harg3.unread x2) (harg5.unread x4) (harg7.unread x6) (harg9.unread x8) k g)) := by
  intro h d e
  rw [← stateOf_lane R (k.val + 1) h d e]
  refine View.read_writes_apply_of_pieces (Val := Elt Ideal) arg12.view g (stateOf R (k.val + 1)) _ (fun p hp x => ?_) _ ?_
  · obtain ⟨j, -, rfl⟩ := List.mem_map.mp hp
    dsimp only
    obtain ⟨a, L, e, rfl⟩ : ∃ a L e, x = ix3 (0 : Fin 1) L e := ⟨x 0, x 1, x 2, by
      funext a; fin_cases a
      · exact Subsingleton.elim (α := Fin 1) _ _
      · rfl
      · rfl⟩
    obtain ⟨h, d, rfl, rfl⟩ := exists_lane j L
    rw [pair_lane R arg2 harg2 arg3 harg3 arg5 harg5 arg7 harg7 arg9 harg9 arg12 x0 x1 x2 x3 x4 x5 x6 x7 x8 x9 B k g H, emb_four, stateOf_lane]
  · refine ⟨⟨fourRect (pairOf h), _⟩, List.mem_map.mpr ⟨pairOf h, ?_, rfl⟩, ?_⟩
    · generalize pairOf h = j; revert j; decide
    · rw [← emb_four]
      rw [← Rect.map_emb_univ]; exact Finset.mem_map_of_mem _ (Finset.mem_univ _)

/-- The state as the loop finds it holds zero for every head. -/
theorem holds_zero : Holds R arg12 0 (zeroed (F := Ideal) arg12) := by
  intro h d e
  unfold zeroed Row.state
  refine (View.read_writes_cons_hit (Val := Elt Ideal) arg12.view arg12.view.junk (Rect.unit ![0, 0, 0] S4x128x128.size inb_S4x128x128_S4x128x128_0_0_0) (k0_pay1 (F := Ideal)) []
    (ix3 (pairOf h) (laneOf h d) e) (ix3 (pairOf h) (laneOf h d) e) (Rect.emb_unit_full (s := S4x128x128) _ _)).trans ?_
  pointwise [k0_pay1]

/-- The pieces of one more chunk, of the output block, -/
theorem heads_succ (f : BufTy.Contents (Elt Ideal) arg11.view.ty) (n : ℕ) (hn : n + 1 ≤ k0_t1_loop.trips) :
    (chunksFrom c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 f (zeroed arg12) (n + 1)).1
      = headPieces arg1 arg2 arg3 arg4 arg5 arg6 arg8 arg10 arg12 (harg1.unread x0) (harg2.unread x1) (harg3.unread x2) (harg4.unread x3) (harg5.unread x4)
          (harg6.unread x5) (harg8.unread x7) (harg10.unread x9) ⟨n, hn⟩ (arg12.view.writes (Elt Ideal) (zeroed arg12) (chunksFrom c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 f (zeroed arg12) n).2)
        ++ (chunksFrom c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 f (zeroed arg12) n).1 := by
  unfold chunksFrom
  rw [pb_k0_t1_succ (k := ⟨n, hn⟩), chunk_heads]

/-- and of the state. -/
theorem pairs_succ (f : BufTy.Contents (Elt Ideal) arg11.view.ty) (n : ℕ) (hn : n + 1 ≤ k0_t1_loop.trips) :
    (chunksFrom c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 f (zeroed arg12) (n + 1)).2
      = pairPieces arg2 arg3 arg5 arg7 arg9 arg12 (harg2.unread x1) (harg3.unread x2) (harg5.unread x4) (harg7.unread x6) (harg9.unread x8)
          ⟨n, hn⟩ (arg12.view.writes (Elt Ideal) (zeroed arg12) (chunksFrom c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 f (zeroed arg12) n).2)
        ++ (chunksFrom c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 f (zeroed arg12) n).2 := by
  unfold chunksFrom
  rw [pb_k0_t1_succ (k := ⟨n, hn⟩), chunk_pairs]

include B in
/-- Before every chunk the state holds every head's state. -/
theorem holds_at (f : BufTy.Contents (Elt Ideal) arg11.view.ty) : ∀ n, n ≤ k0_t1_loop.trips →
    Holds R arg12 n (arg12.view.writes (Elt Ideal) (zeroed arg12)
      (chunksFrom c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 f (zeroed arg12) n).2)
  | 0, _ => holds_zero R arg12
  | n + 1, hn => by
    have ih := holds_at f n (Nat.le_of_succ_le hn)
    rw [pairs_succ (hn := hn), View.writes_append]
    exact holds_step R arg2 harg2 arg3 harg3 arg5 harg5 arg7 harg7 arg9 harg9 arg12 x0 x1 x2 x3 x4 x5 x6 x7 x8 x9 B ⟨n, hn⟩ _ ih

/-- The result a place of the output block holds. -/
def resultOf (y : S1x2048x1024.Idx) : EReal := R.result (y 1) (y 2)

include B in
/-- Every piece stored into the output block holds the results of its place. -/
theorem pieces_hold (f : BufTy.Contents (Elt Ideal) arg11.view.ty) : ∀ n, n ≤ k0_t1_loop.trips → ∀ p ∈
      (chunksFrom c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 f (zeroed arg12) n).1,
      ∀ x : p.1.shape.Idx, p.2 x = resultOf R (p.1.emb x)
  | 0, _, p, hp => absurd hp List.not_mem_nil
  | n + 1, hn, p, hp => by
    have ih := pieces_hold f n (Nat.le_of_succ_le hn)
    have H := holds_at R c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 B f n (Nat.le_of_succ_le hn)
    rw [heads_succ (hn := hn)] at hp
    rcases List.mem_append.mp hp with hp | hp
    · obtain ⟨h, -, rfl⟩ := List.mem_map.mp hp
      intro x
      dsimp only
      obtain ⟨a, L, e, rfl⟩ : ∃ a L e, x = ix3 (0 : Fin 1) L e := ⟨x 0, x 1, x 2, by
        funext a; fin_cases a
        · exact Subsingleton.elim (α := Fin 1) _ _
        · rfl
        · rfl⟩
      rw [head_lane_out R arg1 harg1 arg2 harg2 arg3 harg3 arg4 harg4 arg5 harg5 arg6 harg6 arg8 harg8 arg10 harg10 arg12 x0 x1 x2 x3 x4 x5 x6 x7 x8 x9 B ⟨n, hn⟩ _ H, emb_head]
      exact (R.result_piece h n (trips_lt ⟨n, hn⟩) L e).symm
    · exact ih p hp

include B in
/-- What the body leaves in the output block, through whichever view, is the row of results. -/
theorem stored_read {sig' κ' sp'} (v : View sig' κ' sp' S1x2048x1024 .bf16) (f : v.ty.Contents (Elt Ideal)) (y : S1x2048x1024.Idx) :
    v.read (Elt Ideal) (v.writes (Elt Ideal) f
      (stored c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9)) y
      = resultOf R y := by
  refine View.read_writes_apply_of_pieces (Val := Elt Ideal) v f (resultOf R) _ (fun p hp => ?_) y
    (stored_cover c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 y)
  unfold stored at hp
  exact pieces_hold R c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 B arg11.view.junk k0_t1_loop.trips le_rfl p hp

end Cert.Proof.Ret
-- ==== Proof.Ret.RefRun.lean ====
/-
The retention's reference: its run.

The reference goes through the sixteen chunks by a loop over a counter. What the loop carries is a `State` (the running
state, the chunks' outputs so far, the chunked queries, keys and values) and four constants; one trip takes the state
to `step`, so the result is a function of the state number 16 of `init, step 0, step 1, …`.
-/
module

public import proofs.«01_k».proof.Proof.Gen.ReferenceIdeal.Run
public import proofs.«01_k».proof.Proof.Gen.ReferenceIdeal.Step
public import Idealize.ShloMosaic.Lib.Claim
public import proofs.«01_k».proof.Defs

@[expose] public section

set_option maxRecDepth 16384

noncomputable section

open Idealize.ShloMosaic Idealize.ShloMosaic.TcCoe Idealize.SL.Sem Idealize.ShloMosaic.StableHlo

namespace Cert.Proof.Ret

open Cert.ReferenceIdeal Cert.ReferenceIdeal.Gen Cert.ReferenceIdeal.Value Cert.ReferenceIdeal.Step

/-- The reference ends with its arguments unchanged. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

variable {F : FTy → Type} [FloatOps F]

/-- Before trip `j` the loop's values are the state `s`, the number `j` and the four constants. -/
structure Carries (W : Valuation τ sig (Elt F)) (s : State F) (j : ℕ) : Prop where
  state : W (Proc.devRef .tc main_v110_8) = s.main_v110_8
  outs : W (Proc.devRef .tc main_v110_9) = s.main_v110_9
  queries : W (Proc.devRef .tc main_v110_0) = s.main_v110_0
  keys : W (Proc.devRef .tc main_v110_1) = s.main_v110_1
  values : W (Proc.devRef .tc main_v110_2) = s.main_v110_2
  count : W (Proc.devRef .tc main_v110_7) = constantI S_ 32 (BitVec.ofNat 32 j)
  decay : W (Proc.devRef .tc main_v110_3) = K_main_v80 (F := F)
  xi : W (Proc.devRef .tc main_v110_4) = K_main_v96 (F := F)
  chunk : W (Proc.devRef .tc main_v110_5) = K_main_v99 (F := F)
  zeta : W (Proc.devRef .tc main_v110_6) = K_main_v88 (F := F)

section
variable {W : Valuation τ sig (Elt F)} {s : State F} {j : ℕ}

/-- One trip's new running state is `step`'s. -/
theorem trip_state (h : Carries W s j) : step_main_v110_8 W = (step j s).main_v110_8 := by
  unfold Value.step_main_v110_8 res_main_while0b_v141 res_main_while0b_v142
  rw [h.keys, h.values, h.count, h.chunk, h.zeta, h.state]
  rfl

/-- One trip's outputs are `step`'s. -/
theorem trip_outs (h : Carries W s j) : step_main_v110_9 W = (step j s).main_v110_9 := by
  unfold Value.step_main_v110_9 res_main_while0b_v140 res_main_while0b_v141 res_main_while0b_v142
  rw [h.queries, h.keys, h.values, h.count, h.decay, h.xi, h.state, h.outs]
  rfl

/-- One trip's counter is the next number. -/
theorem trip_count (h : Carries W s j) : step_main_v110_7 W = constantI S_ 32 (BitVec.ofNat 32 (j + 1)) := by
  unfold step_main_v110_7
  rw [h.count]
  funext i
  show BitVec.ofNat 32 j + 1#32 = BitVec.ofNat 32 (j + 1)
  simp only [BitVec.ofNat_add]

/-- One trip carries on. -/
theorem Carries.trip (h : Carries W s j) : Carries (STEP W) (step j s) (j + 1) where
  state := (STEP_main_v110_8 W).trans (trip_state h)
  outs := (STEP_main_v110_9 W).trans (trip_outs h)
  queries := (STEP_main_v110_0 W).trans h.queries
  keys := (STEP_main_v110_1 W).trans h.keys
  values := (STEP_main_v110_2 W).trans h.values
  count := (STEP_main_v110_7 W).trans (trip_count h)
  decay := (STEP_main_v110_3 W).trans h.decay
  xi := (STEP_main_v110_4 W).trans h.xi
  chunk := (STEP_main_v110_5 W).trans h.chunk
  zeta := (STEP_main_v110_6 W).trans h.zeta

end

/-- The state before trip `k`. -/
def stateAt (z : (⟨S16x2048x5632, .bf16⟩ : BufTy).Contents (Elt F)) (p : (⟨S16x2048, .i32⟩ : BufTy).Contents (Elt F)) :
    ℕ → State F
  | 0 => init z p
  | k + 1 => step k (stateAt z p k)

variable (m : (ℓ : Loc nD τ sig) → Buf (Elt F) ℓ) (c : Dev nD)

set_option maxRecDepth 65536 in
set_option maxHeartbeats 600000 in
/-- The operations before the loop leave the initial state, number 0 and the constants. -/
theorem carries_entry : Carries (entryContents preI m c)
    (init (m ((c.tc : Thread nD τ).loc main_arg0)) (m ((c.tc : Thread nD τ).loc main_arg1))) 0 := by
  constructor <;> (simp only [entryContents, afterL_cons, afterL_nil]; after_reads_simp) <;> rfl

/-- Before trip `k` the loop carries state number `k`. -/
theorem carries_at : ∀ k, Carries (STEP^[k] (entryContents preI m c))
    (stateAt (m ((c.tc : Thread nD τ).loc main_arg0)) (m ((c.tc : Thread nD τ).loc main_arg1)) k) k
  | 0 => carries_entry m c
  | k + 1 => by
    rw [Function.iterate_succ_apply']
    exact (carries_at k).trip

/-- The run of the reference: its result is made of state number 16, its arguments are as they were. -/
theorem run_reference (ρ : Dev nD → PrngReg) :
    θ_run (defs (F := F)) (onTc (τ := τ) (main (F := F))) ⟨m, fun _ => 0, ρ⟩ fun r => ∀ c : Dev nD,
      r.2.mem ((c.tc : Thread nD τ).loc main_v139)
        = R_main_v139 (stateAt (m ((c.tc : Thread nD τ).loc main_arg0)) (m ((c.tc : Thread nD τ).loc main_arg1)) 16)
            (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by
      have hk := carries_at m c 16
      unfold out_main_v139 R_main_v139
      rw [hk.outs, iter_main_arg0 m c 16, iter_main_arg2 m c 16]
      rfl), (h c).2⟩) (Value.run m ρ)

end Cert.Proof.Ret

end
-- ==== Proof.Ret.RefAt.lean ====
/-
The retention's reference, entry by entry.
-/
module

public import proofs.«01_k».proof.Proof.Ret.RefRun
public import proofs.«01_k».proof.Proof.Ret.Spec
public import Idealize.ShloMosaic.Lib.Pointwise

@[expose] public section

set_option maxRecDepth 16384

noncomputable section

namespace Cert.Proof.Ret

open Cert.ReferenceIdeal Cert.ReferenceIdeal.Gen Cert.ReferenceIdeal.Step
open Idealize.ShloMosaic Idealize.ShloMosaic.TcCoe

/-- The number of a trip, as the reference's 32-bit word reads back. -/
theorem word_toInt (j : ℕ) (hj : j < 16) : BitVec.toInt (BitVec.ofNat 32 j) = j := by interval_cases j <;> rfl

section
variable (j : ℕ) (hj : j < 16) (s : State Ideal)
include hj

/-- A chunk's queries. -/
theorem query_slice (b : Fin 16) (h : Fin 8) (i : Fin 128) (d : Fin 64) :
    b5 j s (ix4 b h i d) = s.main_v110_0 (ix5 ⟨j, hj⟩ b h i d) := by
  pointwise [b5, b4, b0, b1, b2, b3]
  refine congrArg s.main_v110_0 ?_
  have h0 := word_toInt j hj
  congr 1 <;> (apply Fin.ext; simp [Host.clampedStart, h0, constantI] <;> omega)

/-- A chunk's keys. -/
theorem key_slice (b : Fin 16) (h : Fin 8) (i : Fin 128) (d : Fin 64) :
    b11 j s (ix4 b h i d) = s.main_v110_1 (ix5 ⟨j, hj⟩ b h i d) := by
  pointwise [b11, b10, b6, b7, b8, b9]
  refine congrArg s.main_v110_1 ?_
  have h0 := word_toInt j hj
  congr 1 <;> (apply Fin.ext; simp [Host.clampedStart, h0, constantI] <;> omega)

/-- A chunk's values. -/
theorem value_slice (b : Fin 16) (h : Fin 8) (i e : Fin 128) :
    b17 j s (ix4 b h i e) = s.main_v110_2 (ix5 ⟨j, hj⟩ b h i e) := by
  pointwise [b17, b16, b12, b13, b14, b15]
  refine congrArg s.main_v110_2 ?_
  have h0 := word_toInt j hj
  congr 1 <;> (apply Fin.ext; simp [Host.clampedStart, h0, constantI] <;> omega)

/-- The state after a trip. -/
theorem state_step (b : Fin 16) (h : Fin 8) (d : Fin 64) (e : Fin 128) :
    (step (F := Ideal) j s).main_v110_8 (ix4 b h d e)
      = carried (fun i d => s.main_v110_1 (ix5 ⟨j, hj⟩ b h i d)) (fun i e => s.main_v110_2 (ix5 ⟨j, hj⟩ b h i e))
          (fun i _ => K_main_v88 (F := Ideal) (ix2 h i)) (fun _ _ => K_main_v99 (F := Ideal) (ix1 h))
          (fun d e => s.main_v110_8 (ix4 b h d e)) d e := by
  rw [step_main_v110_8]
  unfold carried
  simp only [← key_slice j hj s, ← value_slice j hj s]
  generalize hk : b11 j s = K
  generalize hv : b17 j s = W
  pointwise [b35, b34, b33, b32, b31, b30, b29, b28, hk, hv]

/-- The outputs a trip reads and keeps, or writes. -/
theorem out_step (b : Fin 16) (h : Fin 8) (i e : Fin 128) (k : Fin 16) :
    (step (F := Ideal) j s).main_v110_9 (ix5 k b h i e)
      = if k.val = j then seen (fun i d => s.main_v110_0 (ix5 ⟨j, hj⟩ b h i d)) (fun i d => s.main_v110_1 (ix5 ⟨j, hj⟩ b h i d))
          (fun i e => s.main_v110_2 (ix5 ⟨j, hj⟩ b h i e)) (fun i l => K_main_v80 (F := Ideal) (ix3 h i l))
          (fun i _ => K_main_v96 (F := Ideal) (ix2 h i)) (fun d e => s.main_v110_8 (ix4 b h d e)) i e
        else s.main_v110_9 (ix5 k b h i e) := by
  have hb : b27 j s (ix4 b h i e) = seen (fun i d => s.main_v110_0 (ix5 ⟨j, hj⟩ b h i d)) (fun i d => s.main_v110_1 (ix5 ⟨j, hj⟩ b h i d))
          (fun i e => s.main_v110_2 (ix5 ⟨j, hj⟩ b h i e)) (fun i l => K_main_v80 (F := Ideal) (ix3 h i l))
          (fun i _ => K_main_v96 (F := Ideal) (ix2 h i)) (fun d e => s.main_v110_8 (ix4 b h d e)) i e := by
    unfold seen
    simp only [← query_slice j hj s, ← key_slice j hj s, ← value_slice j hj s]
    generalize hq : b5 j s = Q
    generalize hk : b11 j s = K
    generalize hv : b17 j s = W
    pointwise [b27, b26, b25, b24, b23, b22, b21, b20, b19, b18, hq, hk, hv]
  rw [← hb, step_main_v110_9]
  generalize hq : b27 j s = Q
  pointwise [b41, b40, b39, b38, b37, b36, hq]
  have h0 := word_toInt j hj
  simp [Host.clampedStart, h0, constantI]
  exact if_congr (by omega) rfl rfl

end

/-- The result: the outputs, normed by heads, times the gates. -/
theorem result_at (s : State Ideal) (z : FVec Ideal S16x2048x5632 .bf16) (gn : FVec Ideal S1024 .f32) (b : Fin 16) (r : Fin 2048) (l : Fin 1024) :
    R_main_v139 s z gn (ix3 b r l)
      = settled (fun e => s.main_v110_9 (ix5 ⟨r.val / 128, by omega⟩ b ⟨l.val / 128, by omega⟩ ⟨r.val % 128, by omega⟩ e))
          (fun e => gn (ix1 ⟨128 * (l.val / 128) + e.val, by omega⟩))
          (fun e => z (ix3 b r ⟨3072 + (128 * (l.val / 128) + e.val), by omega⟩)) ⟨l.val % 128, by omega⟩ := by
  have hl : (⟨128 * (l.val / 128) + l.val % 128, by omega⟩ : Fin 1024) = l := Fin.ext (by dsimp only; omega)
  have hz : (⟨3072 + (128 * (l.val / 128) + l.val % 128), by omega⟩ : Fin 5632) = ⟨3072 + l.val, by omega⟩ := Fin.ext (by dsimp only; omega)
  unfold settled mean Ideal.logistic
  dsimp only
  rw [hl, hz]
  pointwise [R_main_v139]

/-- The queries before the loop: the projection's rows, rotated. -/
theorem query_init (z : FVec Ideal S16x2048x5632 .bf16) (p : IVec S16x2048 32) (k b : Fin 16) (h : Fin 8) (i : Fin 128) (d : Fin 64) :
    A_main_v101 (F := Ideal) z p (ix5 k b h i d)
      = turned (fun d => z (ix3 b ⟨128 * k.val + i.val, by omega⟩ ⟨4096 + (64 * h.val + d.val), by omega⟩))
          (fun d => A_main_v18 (F := Ideal) z p (ix3 b ⟨128 * k.val + i.val, by omega⟩ d))
          (fun d => A_main_v19 (F := Ideal) z p (ix3 b ⟨128 * k.val + i.val, by omega⟩ d)) d := by
  unfold turned
  have hr : (⟨128 * k.val + i.val, by omega⟩ : Fin 2048) = ⟨k.val * 128 + i.val, by omega⟩ := Fin.ext (by dsimp only; omega)
  rw [hr]
  generalize hc : A_main_v18 (F := Ideal) z p = C
  generalize hs : A_main_v19 (F := Ideal) z p = S
  pointwise [A_main_v101, A_main_v100, A_main_v36, A_main_v35, A_main_v34, A_main_v33, A_main_v32, A_main_v31, A_main_v30, A_main_v29, A_main_v28, A_main_v27, A_main_v26, A_main_v25, A_main_v24, A_main_v23, A_main_v22, A_main_v21, A_main_v20, A_main_v3, A_main_v2, hc, hs]
  by_cases h32 : d.val < 32
  · simp only [h32, dif_pos, Nat.mul_comm 64 h.val]
  · simp only [h32, dif_neg, not_false_eq_true, show d.val - 32 < 32 from by omega, dif_pos, Nat.mul_comm 64 h.val,
      show 32 + (d.val - 32) = d.val from by omega]

/-- The keys before the loop: the projection's rows, rotated, an eighth. -/
theorem key_init (z : FVec Ideal S16x2048x5632 .bf16) (p : IVec S16x2048 32) (k b : Fin 16) (h : Fin 8) (i : Fin 128) (d : Fin 64) :
    A_main_v105 (F := Ideal) z p (ix5 k b h i d)
      = turned (fun d => z (ix3 b ⟨128 * k.val + i.val, by omega⟩ ⟨4608 + (64 * h.val + d.val), by omega⟩))
          (fun d => A_main_v18 (F := Ideal) z p (ix3 b ⟨128 * k.val + i.val, by omega⟩ d))
          (fun d => A_main_v19 (F := Ideal) z p (ix3 b ⟨128 * k.val + i.val, by omega⟩ d)) d * Ideal.ofBits FTy.f32 0x3E000000#32 := by
  unfold turned
  have hr : (⟨128 * k.val + i.val, by omega⟩ : Fin 2048) = ⟨k.val * 128 + i.val, by omega⟩ := Fin.ext (by dsimp only; omega)
  rw [hr]
  generalize hc : A_main_v18 (F := Ideal) z p = C
  generalize hs : A_main_v19 (F := Ideal) z p = S
  pointwise [A_main_v105, A_main_v103, A_main_v102, A_main_v53, A_main_v47, A_main_v44, A_main_v40, A_main_v37, A_main_v5, A_main_v4, A_main_v43, A_main_v38, A_main_v46, A_main_v41, A_main_v45, A_main_v39, A_main_v52, A_main_v49, A_main_v48, A_main_v51, A_main_v50, A_main_v42, K_main_v104, K_main_cst_10, hc, hs]
  by_cases h32 : d.val < 32
  · simp only [h32, dif_pos, Nat.mul_comm 64 h.val]
  · simp only [h32, dif_neg, not_false_eq_true, show d.val - 32 < 32 from by omega, dif_pos, Nat.mul_comm 64 h.val,
      show 32 + (d.val - 32) = d.val from by omega]

/-- The values before the loop. -/
theorem value_init (z : FVec Ideal S16x2048x5632 .bf16) (p : IVec S16x2048 32) (k b : Fin 16) (h : Fin 8) (i : Fin 128) (e : Fin 128) :
    A_main_v107 (F := Ideal) z p (ix5 k b h i e)
      = z (ix3 b ⟨128 * k.val + i.val, by omega⟩ ⟨2048 + (128 * h.val + e.val), by omega⟩) := by
  pointwise [A_main_v107, A_main_v106, A_main_v54, A_main_v1, A_main_v0]
  refine congrArg z ?_
  congr 1 <;> (apply Fin.ext; dsimp only; omega)

end Cert.Proof.Ret
-- ==== Proof.Ret.RefResult.lean ====
/-
The retention's reference is the recurrence of every batch row.
-/
module

public import proofs.«01_k».proof.Proof.Ret.RefAt
public import proofs.«01_k».proof.Proof.Ret.Row

@[expose] public section

set_option maxRecDepth 16384

noncomputable section

namespace Cert.Proof.Ret

open Cert.ReferenceIdeal Cert.ReferenceIdeal.Gen Cert.ReferenceIdeal.Step
open Idealize.ShloMosaic Idealize.ShloMosaic.TcCoe

variable (z : FVec Ideal S16x2048x5632 .bf16) (p : IVec S16x2048 32) (gn : FVec Ideal S1024 .f32) (b : Fin 16)

/-- A batch row's data: its lanes of the projection, its cosines and sines, the weights and the gains. -/
def rowData : Row where
  q r l := z (ix3 b r ⟨4096 + l.val, by omega⟩)
  k r l := z (ix3 b r ⟨4608 + l.val, by omega⟩)
  v r l := z (ix3 b r ⟨2048 + l.val, by omega⟩)
  g r l := z (ix3 b r ⟨3072 + l.val, by omega⟩)
  co r d := A_main_v18 (F := Ideal) z p (ix3 b r d)
  si r d := A_main_v19 (F := Ideal) z p (ix3 b r d)
  dec h i l := K_main_v80 (F := Ideal) (ix3 h i l)
  zeta h i := K_main_v88 (F := Ideal) (ix2 h i)
  xi h i := K_main_v96 (F := Ideal) (ix2 h i)
  gch h := K_main_v99 (F := Ideal) (ix1 h)
  gain l := gn (ix1 l)

/-- The loop keeps the queries, -/
theorem kept_queries : ∀ n, (stateAt (F := Ideal) z p n).main_v110_0 = A_main_v101 (F := Ideal) z p
  | 0 => rfl
  | n + 1 => kept_queries n

/-- the keys -/
theorem kept_keys : ∀ n, (stateAt (F := Ideal) z p n).main_v110_1 = A_main_v105 (F := Ideal) z p
  | 0 => rfl
  | n + 1 => kept_keys n

/-- and the values. -/
theorem kept_values : ∀ n, (stateAt (F := Ideal) z p n).main_v110_2 = A_main_v107 (F := Ideal) z p
  | 0 => rfl
  | n + 1 => kept_values n

variable (n : ℕ) (hn : n < 16) (h : Fin 8)

/-- Chunk `n`'s queries, -/
theorem ref_chunk_queries : (fun i d => (stateAt (F := Ideal) z p n).main_v110_0 (ix5 ⟨n, hn⟩ b h i d)) = (rowData z p gn b).Q h n := by
  funext i d
  rw [kept_queries, query_init]
  unfold Row.Q
  rw [rowOf_val n hn]
  rfl

/-- keys -/
theorem ref_chunk_keys : (fun i d => (stateAt (F := Ideal) z p n).main_v110_1 (ix5 ⟨n, hn⟩ b h i d)) = (rowData z p gn b).K h n := by
  funext i d
  rw [kept_keys, key_init]
  unfold Row.K
  rw [rowOf_val n hn]
  rfl

/-- and values are the row's. -/
theorem ref_chunk_values : (fun i e => (stateAt (F := Ideal) z p n).main_v110_2 (ix5 ⟨n, hn⟩ b h i e)) = (rowData z p gn b).V h n := by
  funext i e
  rw [kept_values, value_init]
  unfold Row.V
  rw [rowOf_val n hn]
  rfl

/-- The state before chunk `n` is the recurrence's. -/
theorem ref_state_at : ∀ n, n ≤ 16 → (fun d e => (stateAt (F := Ideal) z p n).main_v110_8 (ix4 b h d e)) = (rowData z p gn b).state h n
  | 0, _ => by
    funext d e
    show K_main_v108 (F := Ideal) (ix4 b h d e) = 0
    pointwise [K_main_v108, K_main_cst_11]
  | n + 1, hn => by
    have ih := ref_state_at n (Nat.le_of_succ_le hn)
    funext d e
    show (step (F := Ideal) n (stateAt (F := Ideal) z p n)).main_v110_8 (ix4 b h d e) = _
    rw [state_step n hn, ref_chunk_keys z p gn b n hn h, ref_chunk_values z p gn b n hn h, ih]
    rfl

/-- A chunk's outputs, once the loop is past it, are the recurrence's. -/
theorem ref_out_at (k : Fin 16) (i e : Fin 128) : ∀ n, n ≤ 16 → k.val < n →
    (stateAt (F := Ideal) z p n).main_v110_9 (ix5 k b h i e) = (rowData z p gn b).out h k.val i e
  | 0, _, hk => absurd hk (Nat.not_lt_zero _)
  | n + 1, hn, hk => by
    show (step (F := Ideal) n (stateAt (F := Ideal) z p n)).main_v110_9 (ix5 k b h i e) = _
    rw [out_step n hn]
    by_cases e0 : k.val = n
    · rw [if_pos e0, ref_chunk_queries z p gn b n hn h, ref_chunk_keys z p gn b n hn h, ref_chunk_values z p gn b n hn h,
        ref_state_at z p gn b h n (Nat.le_of_succ_le hn), e0]
      rfl
    · rw [if_neg e0]
      exact ref_out_at k i e n (Nat.le_of_succ_le hn) (by omega)

/-- The reference's result at a place is the row's result there. -/
theorem ref_result (r : Fin 2048) (l : Fin 1024) :
    R_main_v139 (F := Ideal) (stateAt (F := Ideal) z p 16) z gn (ix3 b r l) = (rowData z p gn b).result r l := by
  rw [result_at]
  unfold Row.result Row.piece
  have hr : rowOf (r.val / 128) ⟨r.val % 128, by omega⟩ = r := by
    rw [rowOf_val _ (by omega)]; apply Fin.ext; dsimp only; omega
  rw [hr]
  refine congrArg (fun x => settled x _ _ _) (funext fun e => ?_)
  exact ref_out_at z p gn b _ _ _ e 16 le_rfl (by dsimp only; omega)

end Cert.Proof.Ret
-- ==== Proof.Ret.Value.lean ====
/-
The retention's kernel and its reference give the same array.
-/
module

public import proofs.«01_k».proof.Defs
public import Idealize.ShloMosaic.Lib.Claim
public import proofs.«01_k».proof.Proof.Ret.Frame
public import proofs.«01_k».proof.Proof.Ret.Blocks
public import proofs.«01_k».proof.Proof.Ret.Loop
public import proofs.«01_k».proof.Proof.Ret.RefResult

@[expose] public section

set_option maxRecDepth 16384

noncomputable section

namespace Cert.Proof.Ret

open Cert.KernelIdeal Cert.KernelIdeal.Gen
open Idealize.ShloMosaic Idealize.ShloMosaic.TcCoe Idealize.SL.Sem
open Cert.ReferenceIdeal.Step (R_main_v139)

section
variable (m : (ℓ : Loc nD τ sig) → Buf (Elt Ideal) ℓ) (c : Dev nD)

/-- The data of the batch row of grid point `t`. -/
def rowAt (t : Fin cfg0.N) : Row :=
  rowData (m ((c : Thread nD τ).loc main_arg0)) (m ((c : Thread nD τ).loc main_arg1)) (m ((c : Thread nD τ).loc main_arg2)) ⟨t.val, t.isLt⟩

/-- The blocks of a grid point hold its batch row. -/
theorem blocks_at (t : Fin cfg0.N) : Blocks (rowAt m c t) (iblk m c 0 t) (iblk m c 1 t) (X0_2 m c t) (X0_3 m c t) (iblk m c 4 t)
    (iblk m c 5 t) (iblk m c 6 t) (iblk m c 7 t) (iblk m c 8 t) (iblk m c 9 t) where
  q := block_q m c t
  k := block_k m c t
  v := block_v m c t
  g := block_g m c t
  co r L := (block_tab m c t r _).trans (tab_cos _ _ _ r L)
  si r L := (block_tab m c t r _).trans (tab_sin _ _ _ r L)
  ns r L := (block_tab m c t r _).trans (tab_neg _ _ _ r L)
  dec := block_decay m c t
  zeta := block_zeta m c t
  xi := block_xi m c t
  gch := block_gch m c t
  gain := block_gain m c t

/-- The result array after the run is the reference's. -/
theorem final : (dats m 0 c).arrAt 10 (cfgs 0).N
    = R_main_v139 (stateAt (m ((c : Thread nD τ).loc main_arg0)) (m ((c : Thread nD τ).loc main_arg1)) 16)
        (m ((c : Thread nD τ).loc main_arg0)) (m ((c : Thread nD τ).loc main_arg2)) := by
  refine (dats m 0 c).arrAt_eq_of_covers 10 _ (by decide +kernel) fun t hf y => ?_
  blk_simp; rw [after_10]
  unfold leftAt piecesAt
  rw [stored_read (B := blocks_at m c t)]
  unfold resultOf rowAt
  refine (ref_result (m ((c : Thread nD τ).loc main_arg0)) (m ((c : Thread nD τ).loc main_arg1)) (m ((c : Thread nD τ).loc main_arg2)) ⟨t.val, t.isLt⟩ (y 1) (y 2)).symm.trans ?_
  refine congrArg _ ?_
  blk_ext [idx t]

end

/-- The kernel's array and the reference's are equal. -/
theorem algebraic : Cert.algebraic_KernelIdeal_ReferenceIdeal := by
  intro m ρ m' ρ' _ hagree
  refine ⟨fun c => (dats (F := Ideal) m 0 c).arrAt 10 cfg0.N, run_named (F := Ideal) m ρ, ?_⟩
  refine (θ_run _ _ _).mono (fun _ h c => ⟨(h c).1.trans ?_, (h c).2⟩) (run_reference (F := Ideal) m' ρ')
  obtain ⟨e0, e1, e2⟩ := hagree c
  rw [e0, e1, e2]
  exact (final m c).symm

end Cert.Proof.Ret

end
-- ==== Proof.NormProj.lean ====
/- The norm and the combined projection: the array the kernel ends with is the reference's term. -/
module

public import proofs.«01_k».proof.Proof.Gen.Kernel2Ideal.Value
public import proofs.«01_k».proof.Proof.Gen.Reference2Ideal.Run
public import Idealize.ShloMosaic.Lib.Pipeline.ValueKit
public import Idealize.ShloMosaic.Lib.Claim
public import proofs.«01_k».proof.Defs

public import Idealize.ShloMosaic.Lib.Pipeline.ReadBack
public import Idealize.ShloMosaic.Lib.Writes
public import Idealize.ShloMosaic.Lib.VecWindow
@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen

variable (m : (ℓ : Loc nD τ sig) → Buf (Elt Ideal) ℓ)

/-- A row norm with its gain, as the reference computes it. -/
abbrev NORMED (x : FVec Ideal Cert.Reference2Ideal.S32768x2048 .f32) (w : FVec Ideal Cert.Reference2Ideal.S2048 .f32) :
    FVec Ideal Cert.Reference2Ideal.S32768x2048 .f32 :=
  mulf (mulf x (broadcastInDim Cert.Reference2Ideal.S32768x2048 ![0, 1] Cert.Reference2Ideal.Gen.bcast_S32768x1_S32768x2048_0_1
      (Host.rsqrt (addf (Host.divf (broadcastInDim Cert.Reference2Ideal.S32768x1 ![0] Cert.Reference2Ideal.Gen.bcast_S32768_S32768x1_0
          (Host.reduceAdd (mulf x x) (constant Cert.Reference2Ideal.S_ .f32 0x00000000#32) Cert.Reference2Ideal.Gen.reducesTo_S32768x2048_S32768_d1 Cert.Reference2Ideal.Gen.h_S_))
          (broadcastInDim Cert.Reference2Ideal.S32768x1 ![] Cert.Reference2Ideal.Gen.bcast_S_S32768x1 (constant Cert.Reference2Ideal.S_ .f32 0x45000000#32)))
        (broadcastInDim Cert.Reference2Ideal.S32768x1 ![] Cert.Reference2Ideal.Gen.bcast_S_S32768x1 (constant Cert.Reference2Ideal.S_ .f32 0x358637BD#32))))))
    (broadcastInDim Cert.Reference2Ideal.S32768x2048 ![0, 1] Cert.Reference2Ideal.Gen.bcast_S1x2048_S32768x2048_0_1
      (broadcastInDim Cert.Reference2Ideal.S1x2048 ![1] Cert.Reference2Ideal.Gen.bcast_S2048_S1x2048_1 w))

/-- The normed rows times the projection's weights, as the reference computes them. -/
def PROJ (h : FVec Ideal Cert.Reference2Ideal.S32768x2048 .f32) (g : FVec Ideal Cert.Reference2Ideal.S2048 .f32) (w : FVec Ideal Cert.Reference2Ideal.S2048x5456 .f32) :
    FVec Ideal Cert.Reference2Ideal.S32768x5456 .f32 :=
  Host.dotGeneral Cert.Reference2Ideal.dot_S32768x2048_S2048x5456_S32768x5456_1_0_0_1_n_n none (NORMED h g) w

/-- The reference's result of its arguments: the projection's column groups in another order, and a group of zeros. -/
abbrev REF (h : FVec Ideal Cert.Reference2Ideal.S32768x2048 .f32) (g : FVec Ideal Cert.Reference2Ideal.S2048 .f32) (w : FVec Ideal Cert.Reference2Ideal.S2048x5456 .f32) :
    FVec Ideal Cert.Reference2Ideal.S32768x5632 .bf16 :=
  truncf .bf16 (concatenate Cert.Reference2Ideal.S32768x5632 1 [⟨Cert.Reference2Ideal.S32768x1024, extractStridedSlice Cert.Reference2Ideal.S32768x1024 ![0, 0] (PROJ h g w) Cert.Reference2Ideal.Gen.slices_S32768x5456_S32768x1024_0_0⟩,
      ⟨Cert.Reference2Ideal.S32768x1024, extractStridedSlice Cert.Reference2Ideal.S32768x1024 ![0, 1280] (PROJ h g w) Cert.Reference2Ideal.Gen.slices_S32768x5456_S32768x1024_0_1280⟩,
      ⟨Cert.Reference2Ideal.S32768x1024, extractStridedSlice Cert.Reference2Ideal.S32768x1024 ![0, 3408] (PROJ h g w) Cert.Reference2Ideal.Gen.slices_S32768x5456_S32768x1024_0_3408⟩,
      ⟨Cert.Reference2Ideal.S32768x1024, extractStridedSlice Cert.Reference2Ideal.S32768x1024 ![0, 4432] (PROJ h g w) Cert.Reference2Ideal.Gen.slices_S32768x5456_S32768x1024_0_4432⟩,
      ⟨Cert.Reference2Ideal.S32768x512, extractStridedSlice Cert.Reference2Ideal.S32768x512 ![0, 2384] (PROJ h g w) Cert.Reference2Ideal.Gen.slices_S32768x5456_S32768x512_0_2384⟩,
      ⟨Cert.Reference2Ideal.S32768x512, extractStridedSlice Cert.Reference2Ideal.S32768x512 ![0, 2896] (PROJ h g w) Cert.Reference2Ideal.Gen.slices_S32768x5456_S32768x512_0_2896⟩,
      ⟨Cert.Reference2Ideal.S32768x128, extractStridedSlice Cert.Reference2Ideal.S32768x128 ![0, 1024] (PROJ h g w) Cert.Reference2Ideal.Gen.slices_S32768x5456_S32768x128_0_1024⟩,
      ⟨Cert.Reference2Ideal.S32768x128, extractStridedSlice Cert.Reference2Ideal.S32768x128 ![0, 1152] (PROJ h g w) Cert.Reference2Ideal.Gen.slices_S32768x5456_S32768x128_0_1152⟩,
      ⟨Cert.Reference2Ideal.S32768x64, extractStridedSlice Cert.Reference2Ideal.S32768x64 ![0, 2304] (PROJ h g w) Cert.Reference2Ideal.Gen.slices_S32768x5456_S32768x64_0_2304⟩,
      ⟨Cert.Reference2Ideal.S32768x16, extractStridedSlice Cert.Reference2Ideal.S32768x16 ![0, 2368] (PROJ h g w) Cert.Reference2Ideal.Gen.slices_S32768x5456_S32768x16_0_2368⟩,
      ⟨Cert.Reference2Ideal.S32768x176, broadcastInDim Cert.Reference2Ideal.S32768x176 ![] Cert.Reference2Ideal.Gen.bcast_S_S32768x176 (constant Cert.Reference2Ideal.S_ .f32 0x00000000#32)⟩]
    Cert.Reference2Ideal.Gen.concatenates_S32768x1024_S32768x1024_S32768x1024_S32768x1024_S32768x512_S32768x512_S32768x128_S32768x128_S32768x64_S32768x16_S32768x176_S32768x5632_d1) Cert.Reference2Ideal.Gen.bitsLt_bf16_f32

/-- Every window's block index at every grid point. -/
theorem idx : ∀ t : Fin cfg0.N, win0_0.index t = ![t.val / 11, 0]
    ∧ win0_1.index t = ![0, 0]
    ∧ win0_2.index t = ![0, t.val % 11]
    ∧ win0_3.index t = ![t.val / 11, t.val % 11] :=
  (by decide +kernel : ∀ t : Fin grid0.N, _)

/-- The column of the projection that column `l` of the result is; the last columns are zero. -/
def pick (f : Fin 5456 → EReal) (l : Fin 5632) : EReal :=
  if h : l.val < 1024 then f ⟨l.val, by omega⟩
    else if h : l.val - 1024 < 1024 then f ⟨1280 + (l.val - 1024), by omega⟩
    else if h : l.val - 1024 - 1024 < 1024 then f ⟨3408 + (l.val - 1024 - 1024), by omega⟩
    else if h : l.val - 1024 - 1024 - 1024 < 1024 then f ⟨4432 + (l.val - 1024 - 1024 - 1024), by omega⟩
    else if h : l.val - 1024 - 1024 - 1024 - 1024 < 512 then f ⟨2384 + (l.val - 1024 - 1024 - 1024 - 1024), by omega⟩
    else if h : l.val - 1024 - 1024 - 1024 - 1024 - 512 < 512 then f ⟨2896 + (l.val - 1024 - 1024 - 1024 - 1024 - 512), by omega⟩
    else if h : l.val - 1024 - 1024 - 1024 - 1024 - 512 - 512 < 128 then f ⟨1024 + (l.val - 1024 - 1024 - 1024 - 1024 - 512 - 512), by omega⟩
    else if h : l.val - 1024 - 1024 - 1024 - 1024 - 512 - 512 - 128 < 128 then f ⟨1152 + (l.val - 1024 - 1024 - 1024 - 1024 - 512 - 512 - 128), by omega⟩
    else if h : l.val - 1024 - 1024 - 1024 - 1024 - 512 - 512 - 128 - 128 < 64 then f ⟨2304 + (l.val - 1024 - 1024 - 1024 - 1024 - 512 - 512 - 128 - 128), by omega⟩
    else if h : l.val - 1024 - 1024 - 1024 - 1024 - 512 - 512 - 128 - 128 - 64 < 16 then f ⟨2368 + (l.val - 1024 - 1024 - 1024 - 1024 - 512 - 512 - 128 - 128 - 64), by omega⟩
    else 0

/-- One more case of a choice of column keeps it a choice of column. -/
theorem pick_step {α : Type} {p : Prop} [Decidable p] (a : p → α) (g : (α → EReal) → EReal)
    (hg : (∃ j, ∀ f, g f = f j) ∨ ∀ f, g f = 0) :
    (∃ j, ∀ f : α → EReal, (if h : p then f (a h) else g f) = f j) ∨ ∀ f : α → EReal, (if h : p then f (a h) else g f) = 0 := by
  by_cases h : p
  · exact .inl ⟨a h, fun f => dif_pos h⟩
  · simpa only [dif_neg h] using hg

/-- Every column is picked at one place, or is zero. -/
theorem pick_cases (l : Fin 5632) : (∃ j, ∀ f, pick f l = f j) ∨ ∀ f, pick f l = 0 := by
  unfold pick
  iterate 10 refine pick_step _ _ ?_
  exact .inr fun _ => rfl

/-- A column picked of sums is the sum with that column. -/
theorem pick_sum (a : Fin 2048 → EReal) (w : Fin 2048 → Fin 5456 → EReal) (l : Fin 5632) :
    pick (fun l => ∑ k, a k * w k l) l = ∑ k, a k * pick (w k) l := by
  rcases pick_cases l with ⟨j, h⟩ | h
  · simp only [h]
  · simp only [h, mul_zero, Finset.sum_const_zero]

/-- The projection at an index. -/
theorem proj_at (h : FVec Ideal Cert.Reference2Ideal.S32768x2048 .f32) (g : FVec Ideal Cert.Reference2Ideal.S2048 .f32)
    (w : FVec Ideal Cert.Reference2Ideal.S2048x5456 .f32) (i : Fin 32768) (l : Fin 5456) :
    PROJ h g w (ix2 i l) = ∑ k : Fin 2048, (h (ix2 i k) * Ideal.rsqrt (Ideal.div (∑ d : Fin 2048, h (ix2 i d) * h (ix2 i d)) (Ideal.ofBits FTy.f32 1157627904#32) + Ideal.ofBits FTy.f32 897988541#32)
      * g (ix1 k)) * w (ix2 k l) := by
  pointwise [PROJ, NORMED]

/-- The reference's result at an index. -/
theorem ref_at (h : FVec Ideal Cert.Reference2Ideal.S32768x2048 .f32) (g : FVec Ideal Cert.Reference2Ideal.S2048 .f32)
    (w : FVec Ideal Cert.Reference2Ideal.S2048x5456 .f32) (j : Cert.Reference2Ideal.S32768x5632.Idx) :
    REF h g w j = ∑ k : Fin 2048, (h (ix2 (j 0) k) * Ideal.rsqrt (Ideal.div (∑ d : Fin 2048, h (ix2 (j 0) d) * h (ix2 (j 0) d)) (Ideal.ofBits FTy.f32 1157627904#32) + Ideal.ofBits FTy.f32 897988541#32)
      * g (ix1 k)) * pick (fun l => w (ix2 k l)) (j 1) := by
  have e : REF h g w j = pick (fun l => PROJ h g w (ix2 (j 0) l)) (j 1) := by
    pointwise [REF, pick]
  rw [e]
  exact (congrArg (fun f => pick f (j 1)) (funext fun l => proj_at h g w (j 0) l)).trans (pick_sum _ _ _)

set_option maxRecDepth 200000 in
set_option maxHeartbeats 4000000 in
/-- The weights' column groups in the order the host lays them out, and a group of zeros. -/
def wlaid (w : FVec Ideal S2048x5456 .f32) : FVec Ideal S2048x5632 .bf16 :=
  truncf .bf16 (concatenate S2048x5632 1 [⟨S2048x1024, extractStridedSlice S2048x1024 ![0, 0] w slices_S2048x5456_S2048x1024_0_0⟩,
      ⟨S2048x1024, extractStridedSlice S2048x1024 ![0, 1280] w slices_S2048x5456_S2048x1024_0_1280⟩,
      ⟨S2048x1024, extractStridedSlice S2048x1024 ![0, 3408] w slices_S2048x5456_S2048x1024_0_3408⟩,
      ⟨S2048x1024, extractStridedSlice S2048x1024 ![0, 4432] w slices_S2048x5456_S2048x1024_0_4432⟩,
      ⟨S2048x512, extractStridedSlice S2048x512 ![0, 2384] w slices_S2048x5456_S2048x512_0_2384⟩,
      ⟨S2048x512, extractStridedSlice S2048x512 ![0, 2896] w slices_S2048x5456_S2048x512_0_2896⟩,
      ⟨S2048x128, extractStridedSlice S2048x128 ![0, 1024] w slices_S2048x5456_S2048x128_0_1024⟩,
      ⟨S2048x128, extractStridedSlice S2048x128 ![0, 1152] w slices_S2048x5456_S2048x128_0_1152⟩,
      ⟨S2048x64, extractStridedSlice S2048x64 ![0, 2304] w slices_S2048x5456_S2048x64_0_2304⟩,
      ⟨S2048x16, extractStridedSlice S2048x16 ![0, 2368] w slices_S2048x5456_S2048x16_0_2368⟩,
      ⟨S2048x176, broadcastInDim S2048x176 ![] bcast_S_S2048x176 (constant S_ .f32 0x00000000#32)⟩]
    concatenates_S2048x1024_S2048x1024_S2048x1024_S2048x1024_S2048x512_S2048x512_S2048x128_S2048x128_S2048x64_S2048x16_S2048x176_S2048x5632_d1) bitsLt_bf16_f32

/-- Their entry in a row is the picked column's. -/
theorem wlaid_at (w : FVec Ideal S2048x5456 .f32) (k : Fin 2048) (L : Fin 5632) :
    wlaid w (ix2 k L) = pick (fun l => w (ix2 k l)) L := by
  pointwise [wlaid, pick]

/-- The call finds the weights so laid out. -/
theorem entry_wlaid (c : Dev nD) : V m c main_v13 = wlaid (m ((c : Thread nD τ).loc main_arg2)) := by
  unfold V hostOps0
  after_results_simp <;> rfl

/-- The weights as the host lays them out, a tile of them at an index. -/
theorem weights_at (c : Dev nD) (t : Fin cfg0.N) (k : Fin 2048) (l : Fin 512) (L : Fin 5632) (hL : L.val = 512 * (t.val % 11) + l.val) :
    iblk m c 2 t (ix2 k l) = pick (fun l => m ((c : Thread nD τ).loc main_arg2) (ix2 k l)) L := by
  blk_simp [iblk]
  rw [entry_wlaid, ← wlaid_at]
  generalize wlaid (m ((c : Thread nD τ).loc main_arg2)) = W
  refine congrArg W ?_
  blk_ext [idx t]

/-- A block of rows, normed, with the gain. -/
def rows (x : FVec Ideal S1024x2048 .f32) (g : FVec Ideal S1x2048 .f32) : FVec Ideal S1024x2048 .bf16 :=
  fun j => x j * Ideal.rsqrt (Ideal.div (∑ d : Fin 2048, x (ix2 (j 0) d) * x (ix2 (j 0) d)) (Ideal.ofBits FTy.f32 1157627904#32) + Ideal.ofBits FTy.f32 897988541#32)
    * g (ix2 0 (j 1))

/-- A load's place in a rectangle is the rectangle's own. -/
theorem idx_eq_emb {s : Shape} (r : Rect s) (x : r.shape.Idx) : r.toLoadRect.idx x = r.emb x := rfl

/-- The strip a trip of the inner loop stores holds the normed rows at its place. -/
theorem strip (𝒱 : Variants) (c : Dev nD) (bd : Option 𝒱.V) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S1024x2048 .bf16) (harg6 : arg6.IsWhole) (k0_h1 : k0_cond1 i = 1#1) (x : Vec Ideal S1024x2048 .f32) (g : Vec Ideal S1x2048 .f32) (k : Fin k0_t1_loop.trips) :
    ∀ p ∈ tripL_k0_t1 (F := Ideal) 𝒱 c bd i arg2 harg2 arg3 harg3 arg4 harg4 arg5 harg5 arg6 harg6 k0_h1 (harg2.unread x) (harg3.unread g) k,
      ∀ y : p.1.shape.Idx, p.2 y = rows x g (p.1.emb y) := by
  intro p hp
  unfold tripL_k0_t1 trip_k0_t1 at hp
  dsimp only at hp
  obtain rfl := List.mem_singleton.mp hp
  intro y
  show k0_pay1 (F := Ideal) _ _ _ = _
  pointwise [k0_pay1, rows]
  simp only [View.readAt_apply, Memref.IsWhole.read_unread, idx_eq_emb]
  have h1 : k0_off1 k 1 = 0 := rfl
  blk_point [h1]

/-- So do the strips of the first trips. -/
theorem strips (𝒱 : Variants) (c : Dev nD) (bd : Option 𝒱.V) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S1024x2048 .bf16) (harg6 : arg6.IsWhole) (k0_h1 : k0_cond1 i = 1#1) (x : Vec Ideal S1024x2048 .f32) (g : Vec Ideal S1x2048 .f32)  :
    ∀ k ≤ k0_t1_loop.trips, ∀ p ∈ pb_k0_t1 (F := Ideal) 𝒱 c bd i arg2 harg2 arg3 harg3 arg4 harg4 arg5 harg5 arg6 harg6 k0_h1 (harg2.unread x) (harg3.unread g) k,
      ∀ y : p.1.shape.Idx, p.2 y = rows x g (p.1.emb y)
  | 0, _, p, hp => absurd hp List.not_mem_nil
  | k + 1, hk, p, hp => by
    rw [pb_k0_t1_succ 𝒱 c bd i arg2 harg2 arg3 harg3 arg4 harg4 arg5 harg5 arg6 harg6 k0_h1 _ _ ⟨k, hk⟩] at hp
    rcases List.mem_append.mp hp with hp | hp
    · exact strip 𝒱 c bd i arg2 harg2 arg3 harg3 arg4 harg4 arg5 harg5 arg6 harg6 k0_h1 x g ⟨k, hk⟩ p hp
    · exact strips 𝒱 c bd i arg2 harg2 arg3 harg3 arg4 harg4 arg5 harg5 arg6 harg6 k0_h1 x g k (Nat.le_of_succ_le hk) p hp

/-- At the first point of a row block the scratch ends at the block's normed rows. -/
theorem scratch_A (c : Dev nD) (t : Fin cfg0.N) (h : t.val % 11 = 0) :
    (outsAt0 m c t.val t.isLt).2 = rows (iblk m c 0 t) (iblk m c 1 t) := by
  rw [outsAt0_A m c t h]
  funext y
  dsimp only
  unfold sout0_A_0
  exact View.read_writes_apply_of_pieces _ _ _ _ (strips _ _ _ _ _ _ _ _ _ _ _ _ _ _ _ _ _ k0_t1_loop.trips le_rfl) y (scover0_A_0 c (grid0.coords t) (ms0_0 t) (hs0_0 t) (ms0_1 t) (hs0_1 t) (ms0_2 t) (hs0_2 t) (ms0_3 t) (hs0_3 t) scM0_0 (Memref.isWhole_whole _) ((hcond0_0 t).mpr h) (iblk m c 0 t) (iblk m c 1 t) (iblk m c 2 t) y)

/-- The first point's output block is the product of the scratch as it leaves it. -/
theorem out_A (c : Dev nD) (t : Fin cfg0.N) (h : t.val % 11 = 0) :
    (outsAt0 m c t.val t.isLt).1 = k0_pay2 (outsAt0 m c t.val t.isLt).2 (iblk m c 2 t) := by
  rw [outsAt0_A m c t h]
  frame_out
  rw [View.readCov_eq_canon']
  refine congrArg (fun a => k0_pay2 (F := Ideal) a (iblk m c 2 t)) (funext fun j => congrArg _ ?_)
  exact Rect.emb_unit_full _ j

/-- A later point leaves the scratch as it was. -/
theorem scratch_B (c : Dev nD) (t : Fin cfg0.N) (h : ¬t.val % 11 = 0) :
    (outsAt0 m c t.val t.isLt).2 = (outsAt0 m c (t.val - 1) (Nat.lt_of_le_of_lt (Nat.sub_le _ _) t.isLt)).2 := by
  rw [outsAt0_B m c t h]
  dsimp only
  unfold sout0_B_0
  rfl

/-- A later point's output block is the product of the scratch it finds. -/
theorem out_B (c : Dev nD) (t : Fin cfg0.N) (h : ¬t.val % 11 = 0) :
    (outsAt0 m c t.val t.isLt).1 = k0_pay2 (outsAt0 m c (t.val - 1) (Nat.lt_of_le_of_lt (Nat.sub_le _ _) t.isLt)).2 (iblk m c 2 t) := by
  rw [outsAt0_B m c t h]
  frame_out
  simp only [read_unread_whole]

/-- The product's block. -/
theorem point (c : Dev nD) (t : Fin cfg0.N) (y) :
    k0_pay2 (rows (iblk m c 0 t) (iblk m c 1 t)) (iblk m c 2 t) y
      = REF (m ((c : Thread nD τ).loc main_arg0)) (m ((c : Thread nD τ).loc main_arg1)) (m ((c : Thread nD τ).loc main_arg2)) (((cfg0.win 3).blk t).view.emb y) := by
  rw [ref_at]
  pointwise [k0_pay2, rows]
  refine Finset.sum_congr rfl fun k _ => ?_
  rw [weights_at m c t k (y 1) (((cfg0.win 3).blk t).view.emb y 1) (by blk_simp [idx t]; omega)]
  refine congrArg (· * _) ?_
  blk_point [iblk, V, idx t]

/-- The scratch holds the row block's normed rows at every point. -/
theorem scratch (c : Dev nD) : ∀ n (h : n < cfg0.N), (outsAt0 m c n h).2 = rows (iblk m c 0 ⟨n, h⟩) (iblk m c 1 ⟨n, h⟩)
  | 0, h => scratch_A m c ⟨0, h⟩ rfl
  | n + 1, h => by
    by_cases e : (n + 1) % 11 = 0
    · exact scratch_A m c ⟨n + 1, h⟩ e
    · rw [scratch_B m c ⟨n + 1, h⟩ e]
      refine (scratch c n (Nat.lt_of_succ_lt h)).trans ?_
      have hd : n / 11 = (n + 1) / 11 := by omega
      have e0 : iblk m c 0 ⟨n, Nat.lt_of_succ_lt h⟩ = iblk m c 0 ⟨n + 1, h⟩ := by
        funext y; blk_point [iblk, V, idx ⟨n, Nat.lt_of_succ_lt h⟩, idx ⟨n + 1, h⟩]
      have e1 : iblk m c 1 ⟨n, Nat.lt_of_succ_lt h⟩ = iblk m c 1 ⟨n + 1, h⟩ := by
        funext y; blk_point [iblk, V, idx ⟨n, Nat.lt_of_succ_lt h⟩, idx ⟨n + 1, h⟩]
      rw [e0, e1]

/-- The result array after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]
  have e : (outsAt0 m c t.val t.isLt).1 = k0_pay2 (outsAt0 m c t.val t.isLt).2 (iblk m c 2 t) := by
    by_cases h : t.val % 11 = 0
    · exact out_A m c t h
    · rw [out_B m c t h, scratch_B m c t h]
  rw [e, scratch m c t.val t.isLt]
  exact point m c t y

end Cert.Kernel2Ideal.Value

namespace Cert.Proof.NormProj

/-- The reference ends with its arguments unchanged. -/
theorem frame_reference : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The kernel's array and the reference's are equal. -/
theorem algebraic : Cert.algebraic_Kernel2Ideal_Reference2Ideal := by
  intro m ρ m' ρ' _ hagree
  refine ⟨fun c => (Cert.Kernel2Ideal.Gen.dats m 0 c).arrAt 3 Cert.Kernel2Ideal.cfg0.N,
    Cert.Kernel2Ideal.Value.run_blocks (F := Ideal) m ρ, ?_⟩
  refine (θ_run _ _ _).mono (fun _ h c => ⟨(h c).1.trans ?_, (h c).2⟩) (Cert.Reference2Ideal.Value.run (F := Ideal) m' ρ')
  obtain ⟨e0, e1, e2⟩ := hagree c
  unfold Cert.Reference2Ideal.Value.res_main_v26
  rw [e0, e1, e2]
  exact (Cert.Kernel2Ideal.Value.final m c).symm

end Cert.Proof.NormProj

end
-- ==== Proof.OutProj.lean ====
/- The output projection's call: the two arrays the kernel ends with are the reference's terms. -/
module

public import proofs.«01_k».proof.Proof.Gen.Kernel3Ideal.Value
public import proofs.«01_k».proof.Proof.Gen.Reference3Ideal.Run
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen

variable (m : (ℓ : Loc nD τ sig) → Buf (Elt Ideal) ℓ)

/-- The projected heads, as the reference computes them: the two groups of heads side by side, times the weights. -/
def MIX (a r : FVec Ideal Cert.Reference3Ideal.S32768x1024 .bf16) (w : FVec Ideal Cert.Reference3Ideal.S2048x2048 .f32) :
    FVec Ideal Cert.Reference3Ideal.S32768x2048 .f32 :=
  Host.dotGeneral Cert.Reference3Ideal.dot_S32768x2048_S2048x2048_S32768x2048_1_0_0_1_n_n none
    (concatenate Cert.Reference3Ideal.S32768x2048 1 [⟨Cert.Reference3Ideal.S32768x1024, extf .f32 a Cert.Reference3Ideal.Gen.bitsLt_bf16_f32⟩,
      ⟨Cert.Reference3Ideal.S32768x1024, extf .f32 r Cert.Reference3Ideal.Gen.bitsLt_bf16_f32⟩] Cert.Reference3Ideal.Gen.concatenates_S32768x1024_S32768x1024_S32768x2048_d1) w

/-- A row norm with its gain, as the reference computes it. -/
abbrev NORMED (x : FVec Ideal Cert.Reference3Ideal.S32768x2048 .f32) (w : FVec Ideal Cert.Reference3Ideal.S2048 .f32) :
    FVec Ideal Cert.Reference3Ideal.S32768x2048 .f32 :=
  mulf (mulf x (broadcastInDim Cert.Reference3Ideal.S32768x2048 ![0, 1] Cert.Reference3Ideal.Gen.bcast_S32768x1_S32768x2048_0_1
      (Host.rsqrt (addf (Host.divf (broadcastInDim Cert.Reference3Ideal.S32768x1 ![0] Cert.Reference3Ideal.Gen.bcast_S32768_S32768x1_0
          (Host.reduceAdd (mulf x x) (constant Cert.Reference3Ideal.S_ .f32 0x00000000#32) Cert.Reference3Ideal.Gen.reducesTo_S32768x2048_S32768_d1 Cert.Reference3Ideal.Gen.h_S_))
          (broadcastInDim Cert.Reference3Ideal.S32768x1 ![] Cert.Reference3Ideal.Gen.bcast_S_S32768x1 (constant Cert.Reference3Ideal.S_ .f32 0x45000000#32)))
        (broadcastInDim Cert.Reference3Ideal.S32768x1 ![] Cert.Reference3Ideal.Gen.bcast_S_S32768x1 (constant Cert.Reference3Ideal.S_ .f32 0x358637BD#32))))))
    (broadcastInDim Cert.Reference3Ideal.S32768x2048 ![0, 1] Cert.Reference3Ideal.Gen.bcast_S1x2048_S32768x2048_0_1
      (broadcastInDim Cert.Reference3Ideal.S1x2048 ![1] Cert.Reference3Ideal.Gen.bcast_S2048_S1x2048_1 w))

/-- The residual stream after the projection, as the reference computes it. -/
abbrev RESID (a r : FVec Ideal Cert.Reference3Ideal.S32768x1024 .bf16) (h : FVec Ideal Cert.Reference3Ideal.S32768x2048 .f32)
    (w : FVec Ideal Cert.Reference3Ideal.S2048x2048 .f32) (g : FVec Ideal Cert.Reference3Ideal.S2048 .f32) :
    FVec Ideal Cert.Reference3Ideal.S32768x2048 .f32 :=
  addf h (NORMED (MIX a r w) g)

/-- The feed-forward part's input, as the reference computes it. -/
abbrev FFIN (a r : FVec Ideal Cert.Reference3Ideal.S32768x1024 .bf16) (h : FVec Ideal Cert.Reference3Ideal.S32768x2048 .f32)
    (w : FVec Ideal Cert.Reference3Ideal.S2048x2048 .f32) (g g' : FVec Ideal Cert.Reference3Ideal.S2048 .f32) :
    FVec Ideal Cert.Reference3Ideal.S32768x2048 .bf16 :=
  truncf .bf16 (NORMED (RESID a r h w g) g') Cert.Reference3Ideal.Gen.bitsLt_bf16_f32

/-- Every window's block index at every grid point. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![0, 0]
    ∧ win0_6.index t = ![0, 0]
    ∧ win0_7.index t = ![t.val, 0]
    ∧ win0_8.index t = ![t.val, 0] :=
  (by decide +kernel : ∀ t : Fin grid0.N, _)

/-- The projected heads at an index: the sum over each group of heads, one after the other. -/
theorem mix_at (a r : FVec Ideal Cert.Reference3Ideal.S32768x1024 .bf16) (w : FVec Ideal Cert.Reference3Ideal.S2048x2048 .f32)
    (j : Cert.Reference3Ideal.S32768x2048.Idx) :
    MIX a r w j = (∑ k : Fin 1024, a (ix2 (j 0) k) * w (ix2 ⟨k.val, by omega⟩ (j 1)))
      + ∑ k : Fin 1024, r (ix2 (j 0) k) * w (ix2 ⟨1024 + k.val, by omega⟩ (j 1)) := by
  pointwise [MIX]

/-- The residual stream's block at every grid point. -/
theorem point_7 (c : Dev nD) (t : Fin cfg0.N) (y) :
    k0_pay2 (iblk m c 0 t) (iblk m c 3 t) (iblk m c 1 t) (iblk m c 4 t) (iblk m c 2 t) (iblk m c 5 t) y
      = RESID (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 7).blk t).view.emb y) := by
  pointwise [k0_pay2, RESID, NORMED]
  simp only [mix_at]
  blk_point [iblk, V, idx t]

/-- The feed-forward input's block at every grid point. -/
theorem point_8 (c : Dev nD) (t : Fin cfg0.N) (y) :
    k0_pay1 (k0_pay2 (iblk m c 0 t) (iblk m c 3 t) (iblk m c 1 t) (iblk m c 4 t) (iblk m c 2 t) (iblk m c 5 t)) (k0_pay3 (iblk m c 6 t))
        (k0_pay4 (iblk m c 0 t) (iblk m c 3 t) (iblk m c 1 t) (iblk m c 4 t) (iblk m c 2 t) (iblk m c 5 t)) (k0_pay5 (F := Ideal)) y
      = FFIN (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (((cfg0.win 8).blk t).view.emb y) := by
  pointwise [k0_pay1, k0_pay2, k0_pay3, k0_pay4, k0_pay5, FFIN, RESID, NORMED]
  simp only [mix_at]
  blk_point [iblk, V, idx t]

/-- The first result array after the run. -/
theorem final7 (c : Dev nD) : (dats m 0 c).arrAt 7 (cfgs 0).N
    = RESID (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 7 _ (by decide +kernel) fun t hf y => ?_
  blk_simp; rw [after0_7]; frame_out
  exact point_7 m c t y

/-- The second result array after the run. -/
theorem final8 (c : Dev nD) : (dats m 0 c).arrAt 8 (cfgs 0).N
    = FFIN (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp; rw [after0_8]; frame_out
  exact point_8 m c t y

end Cert.Kernel3Ideal.Value

namespace Cert.Proof.OutProj

/-- The reference leaves every argument buffer as it was and ends with no pending semaphore. -/
theorem frame_reference : Cert.quiescent_Reference3Ideal := fun m ρ _ =>
  (θ_run Cert.Reference3Ideal.defs _ _).mono (fun r h => ⟨fun c => (h c).2.2, Idealize.ShloMosaic.sem_eq_zero_of_no_sems (by decide) r.2⟩)
    (Cert.Reference3Ideal.Value.run (F := Ideal) m ρ)

/-- The kernel's two results are the reference's, element for element. -/
theorem algebraic : Cert.algebraic_Kernel3Ideal_Reference3Ideal := by
  intro m ρ m' ρ' _ hagree
  refine ⟨fun c => (Cert.Kernel3Ideal.Gen.dats m 0 c).arrAt 7 Cert.Kernel3Ideal.cfg0.N,
    fun c => (Cert.Kernel3Ideal.Gen.dats m 0 c).arrAt 8 Cert.Kernel3Ideal.cfg0.N,
    Cert.Kernel3Ideal.Value.run_blocks (F := Ideal) m ρ, ?_⟩
  refine (θ_run _ _ _).mono (fun _ h c => ⟨(h c).1.trans ?_, (h c).2.1.trans ?_, (h c).2.2⟩) (Cert.Reference3Ideal.Value.run (F := Ideal) m' ρ')
  · obtain ⟨e0, e1, e2, e3, e4, e5⟩ := hagree c
    rw [e0, e1, e2, e3, e4]
    exact (Cert.Kernel3Ideal.Value.final7 m c).symm
  · obtain ⟨e0, e1, e2, e3, e4, e5⟩ := hagree c
    unfold Cert.Reference3Ideal.Value.res_main_v31
    rw [e0, e1, e2, e3, e4, e5]
    exact (Cert.Kernel3Ideal.Value.final8 m c).symm

end Cert.Proof.OutProj

end
-- ==== Proof.Ffn.lean ====
/- The feed-forward call: the array the kernel ends with is the reference's term. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen

variable (m : (ℓ : Loc nD τ sig) → Buf (Elt Ideal) ℓ)

/-- The two products of the feed-forward part with the squared rectifier between them, as the reference computes them. -/
def FF (x : FVec Ideal Cert.Reference4Ideal.S32768x2048 .bf16) (w1 : FVec Ideal Cert.Reference4Ideal.S2048x8192 .f32)
    (w2 : FVec Ideal Cert.Reference4Ideal.S8192x2048 .f32) : FVec Ideal Cert.Reference4Ideal.S32768x2048 .f32 :=
  Host.dotGeneral Cert.Reference4Ideal.dot_S32768x8192_S8192x2048_S32768x2048_1_0_0_1_n_n none
    (mulf
      (maximumf (Host.dotGeneral Cert.Reference4Ideal.dot_S32768x2048_S2048x8192_S32768x8192_1_0_0_1_n_n none (extf .f32 x Cert.Reference4Ideal.Gen.bitsLt_bf16_f32) w1)
        (broadcastInDim Cert.Reference4Ideal.S32768x8192 ![] Cert.Reference4Ideal.Gen.bcast_S_S32768x8192 (constant Cert.Reference4Ideal.S_ .f32 0x00000000#32)))
      (maximumf (Host.dotGeneral Cert.Reference4Ideal.dot_S32768x2048_S2048x8192_S32768x8192_1_0_0_1_n_n none (extf .f32 x Cert.Reference4Ideal.Gen.bitsLt_bf16_f32) w1)
        (broadcastInDim Cert.Reference4Ideal.S32768x8192 ![] Cert.Reference4Ideal.Gen.bcast_S_S32768x8192 (constant Cert.Reference4Ideal.S_ .f32 0x00000000#32)))) w2

/-- A row norm with its gain, as the reference computes it. -/
abbrev NORMED (x : FVec Ideal Cert.Reference4Ideal.S32768x2048 .f32) (w : FVec Ideal Cert.Reference4Ideal.S2048 .f32) :
    FVec Ideal Cert.Reference4Ideal.S32768x2048 .f32 :=
  mulf (mulf x (broadcastInDim Cert.Reference4Ideal.S32768x2048 ![0, 1] Cert.Reference4Ideal.Gen.bcast_S32768x1_S32768x2048_0_1
      (Host.rsqrt (addf (Host.divf (broadcastInDim Cert.Reference4Ideal.S32768x1 ![0] Cert.Reference4Ideal.Gen.bcast_S32768_S32768x1_0
          (Host.reduceAdd (mulf x x) (constant Cert.Reference4Ideal.S_ .f32 0x00000000#32) Cert.Reference4Ideal.Gen.reducesTo_S32768x2048_S32768_d1 Cert.Reference4Ideal.Gen.h_S_))
          (broadcastInDim Cert.Reference4Ideal.S32768x1 ![] Cert.Reference4Ideal.Gen.bcast_S_S32768x1 (constant Cert.Reference4Ideal.S_ .f32 0x45000000#32)))
        (broadcastInDim Cert.Reference4Ideal.S32768x1 ![] Cert.Reference4Ideal.Gen.bcast_S_S32768x1 (constant Cert.Reference4Ideal.S_ .f32 0x358637BD#32))))))
    (broadcastInDim Cert.Reference4Ideal.S32768x2048 ![0, 1] Cert.Reference4Ideal.Gen.bcast_S1x2048_S32768x2048_0_1
      (broadcastInDim Cert.Reference4Ideal.S1x2048 ![1] Cert.Reference4Ideal.Gen.bcast_S2048_S1x2048_1 w))

/-- The reference's result of its arguments. -/
abbrev REF (x : FVec Ideal Cert.Reference4Ideal.S32768x2048 .bf16) (w1 : FVec Ideal Cert.Reference4Ideal.S2048x8192 .f32)
    (w2 : FVec Ideal Cert.Reference4Ideal.S8192x2048 .f32) (h : FVec Ideal Cert.Reference4Ideal.S32768x2048 .f32)
    (w : FVec Ideal Cert.Reference4Ideal.S2048 .f32) : FVec Ideal Cert.Reference4Ideal.S32768x2048 .f32 :=
  addf h (NORMED (FF x w1 w2) w)

/-- Every window's block index at every grid point. -/
theorem idx : ∀ t : Fin cfg0.N, win0_0.index t = ![t.val / 16, 0]
    ∧ win0_1.index t = ![0, t.val % 16]
    ∧ win0_2.index t = ![t.val % 16, 0]
    ∧ win0_3.index t = ![t.val / 16, 0]
    ∧ win0_4.index t = ![0, 0]
    ∧ win0_5.index t = ![t.val / 16, 0] :=
  (by decide +kernel : ∀ t : Fin grid0.N, _)

/-- One hidden tile's part of the product, read at an index. -/
theorem part_at (x : FVec Ideal S512x2048 .bf16) (w1 : FVec Ideal S2048x512 .bf16) (w2 : FVec Ideal S512x2048 .bf16) (j : S512x2048.Idx) :
    k0_pay1 (F := Ideal) x w1 w2 j = ∑ k : Fin 512, (max (∑ d : Fin 2048, x (ix2 (j 0) d) * w1 (ix2 d k)) 0 * max (∑ d : Fin 2048, x (ix2 (j 0) d) * w1 (ix2 d k)) 0) * w2 (ix2 k (j 1)) := by
  pointwise [k0_pay1]

/-- The whole product, read at an index. -/
theorem ff_at (x : FVec Ideal Cert.Reference4Ideal.S32768x2048 .bf16) (w1 : FVec Ideal Cert.Reference4Ideal.S2048x8192 .f32)
    (w2 : FVec Ideal Cert.Reference4Ideal.S8192x2048 .f32) (j : Cert.Reference4Ideal.S32768x2048.Idx) :
    FF x w1 w2 j = ∑ k : Fin 8192, (max (∑ d : Fin 2048, x (ix2 (j 0) d) * w1 (ix2 d k)) 0 * max (∑ d : Fin 2048, x (ix2 (j 0) d) * w1 (ix2 d k)) 0) * w2 (ix2 k (j 1)) := by
  pointwise [FF]

/-- The first tile's store is its part. -/
theorem first_at (x : FVec Ideal S512x2048 .bf16) (w1 : FVec Ideal S2048x512 .bf16) (w2 : FVec Ideal S512x2048 .bf16) (j : S512x2048.Idx) :
    k0_pay2 (F := Ideal) x w1 w2 j = 0 + k0_pay1 (F := Ideal) x w1 w2 j := by
  pointwise [k0_pay2]

/-- A later tile's store is what was there and its part. -/
theorem next_at (x : FVec Ideal S512x2048 .bf16) (w1 : FVec Ideal S2048x512 .bf16) (w2 : FVec Ideal S512x2048 .bf16) (a : FVec Ideal S512x2048 .f32) (j : S512x2048.Idx) :
    k0_pay3 (F := Ideal) x w1 w2 a j = a j + k0_pay1 (F := Ideal) x w1 w2 j := by
  pointwise [k0_pay3]

/-- At a run's last point the output block is the normed accumulator and the residual. -/
theorem last_out (c : Dev nD) (t : Fin cfg0.N) (h : t.val % 16 = 15) :
    (outsAt0 m c t.val t.isLt).1 = k0_pay4 (iblk m c 3 t) ((outsAt0 m c t.val t.isLt).2) (iblk m c 4 t) := by
  rw [outsAt0_C m c t (by omega) (by omega) h]
  frame_out

/-- At a run's last point the accumulator is the reference's product at the block's rows. -/
theorem last_acc (c : Dev nD) (t : Fin cfg0.N) (h : t.val % 16 = 15) (y : S512x2048.Idx) :
    (outsAt0 m c t.val t.isLt).2 y
      = FF (m ((c : Thread nD τ).loc main_arg0)) (m ((c : Thread nD τ).loc main_arg1)) (m ((c : Thread nD τ).loc main_arg2)) (((cfg0.win 5).blk t).view.emb y) := by
  rw [Pipeline.eq_sum_fin_of_reset_step_apply_of_flush (fun n h => (outsAt0 m c n h).2) 16 (fun _ => 0)
    (fun p j => k0_pay1 (iblk m c 0 p) (iblk m c 1 p) (iblk m c 2 p) j)
    (fun t h j => by
      rw [outsAt0_A m c t h (by omega) (by omega)]; frame_out; exact first_at _ _ _ _)
    (fun t h j => by
      by_cases h2 : t.val % 16 = 15
      · rw [outsAt0_C m c t h (by omega) h2]; frame_out; simp only [read_unread_whole]; exact next_at _ _ _ _ _
      · rw [outsAt0_B m c t h (by omega) h2]; frame_out; simp only [read_unread_whole]; exact next_at _ _ _ _ _)
    t h _, zero_add, ff_at]
  simp only [part_at]
  refine Fin.sum_mul_add_congr fun s k hl => ?_
  blk_point [iblk, V, idx t, idx ⟨_, Pipeline.run_point_lt_of_flush t h s⟩]

/-- The result array after the run. -/
theorem final (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp; rw [after0_5]
  have h15 : t.val % 16 = 15 := (flush0_5 t).mp hf
  rw [last_out m c t h15]
  have hacc := last_acc m c t h15
  generalize (outsAt0 m c t.val t.isLt).2 = acc at hacc ⊢
  pointwise [k0_pay4, REF, NORMED]
  simp only [hacc]
  blk_point [iblk, V, idx t]

end Cert.Kernel4Ideal.Value

namespace Cert.Proof.Ffn

/-- The reference ends with its arguments unchanged. -/
theorem frame_reference : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The kernel's array and the reference's are equal. -/
theorem algebraic : Cert.algebraic_Kernel4Ideal_Reference4Ideal := by
  intro m ρ m' ρ' _ hagree
  refine ⟨fun c => (Cert.Kernel4Ideal.Gen.dats m 0 c).arrAt 5 Cert.Kernel4Ideal.cfg0.N,
    Cert.Kernel4Ideal.Value.run_blocks (F := Ideal) m ρ, ?_⟩
  refine (θ_run _ _ _).mono (fun _ h c => ⟨(h c).1.trans ?_, (h c).2⟩) (Cert.Reference4Ideal.Value.run (F := Ideal) m' ρ')
  obtain ⟨e0, e1, e2, e3, e4⟩ := hagree c
  rw [e0, e1, e2, e3, e4]
  exact (Cert.Kernel4Ideal.Value.final m c).symm

end Cert.Proof.Ffn

end
-- ==== Proof.Ple.lean ====
/- The per-layer embedding's call: the array the kernel ends with is the reference's term. -/
module

public import proofs.«01_k».proof.Proof.Gen.Kernel5Ideal.Value
public import proofs.«01_k».proof.Proof.Gen.Reference5Ideal.Run
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.Kernel5Ideal.Value

open Cert.Kernel5Ideal Cert.Kernel5Ideal.Gen

variable (m : (ℓ : Loc nD τ sig) → Buf (Elt Ideal) ℓ)

/-- The gated embedding before its norm, as the reference computes it. -/
abbrev GATED (h : FVec Ideal Cert.Reference5Ideal.S32768x2048 .f32) (p : FVec Ideal Cert.Reference5Ideal.S32768x256 .f32)
    (wg : FVec Ideal Cert.Reference5Ideal.S2048x2048 .f32) (we : FVec Ideal Cert.Reference5Ideal.S256x2048 .f32) :
    FVec Ideal Cert.Reference5Ideal.S32768x2048 .f32 :=
  mulf (Host.divf (broadcastInDim Cert.Reference5Ideal.S32768x2048 ![] Cert.Reference5Ideal.Gen.bcast_S_S32768x2048 (constant Cert.Reference5Ideal.S_ .f32 0x3F800000#32))
      (addf (broadcastInDim Cert.Reference5Ideal.S32768x2048 ![] Cert.Reference5Ideal.Gen.bcast_S_S32768x2048 (constant Cert.Reference5Ideal.S_ .f32 0x3F800000#32))
        (Host.exp (Host.negf (Host.dotGeneral Cert.Reference5Ideal.dot_S32768x2048_S2048x2048_S32768x2048_1_0_0_1_n_n none h wg)))))
    (Host.dotGeneral Cert.Reference5Ideal.dot_S32768x256_S256x2048_S32768x2048_1_0_0_1_n_n none p we)

/-- A row norm with its gain, as the reference computes it. -/
abbrev NORMED (x : FVec Ideal Cert.Reference5Ideal.S32768x2048 .f32) (w : FVec Ideal Cert.Reference5Ideal.S2048 .f32) :
    FVec Ideal Cert.Reference5Ideal.S32768x2048 .f32 :=
  mulf (mulf x (broadcastInDim Cert.Reference5Ideal.S32768x2048 ![0, 1] Cert.Reference5Ideal.Gen.bcast_S32768x1_S32768x2048_0_1
      (Host.rsqrt (addf (Host.divf (broadcastInDim Cert.Reference5Ideal.S32768x1 ![0] Cert.Reference5Ideal.Gen.bcast_S32768_S32768x1_0
          (Host.reduceAdd (mulf x x) (constant Cert.Reference5Ideal.S_ .f32 0x00000000#32) Cert.Reference5Ideal.Gen.reducesTo_S32768x2048_S32768_d1 Cert.Reference5Ideal.Gen.h_S_))
          (broadcastInDim Cert.Reference5Ideal.S32768x1 ![] Cert.Reference5Ideal.Gen.bcast_S_S32768x1 (constant Cert.Reference5Ideal.S_ .f32 0x45000000#32)))
        (broadcastInDim Cert.Reference5Ideal.S32768x1 ![] Cert.Reference5Ideal.Gen.bcast_S_S32768x1 (constant Cert.Reference5Ideal.S_ .f32 0x358637BD#32))))))
    (broadcastInDim Cert.Reference5Ideal.S32768x2048 ![0, 1] Cert.Reference5Ideal.Gen.bcast_S1x2048_S32768x2048_0_1
      (broadcastInDim Cert.Reference5Ideal.S1x2048 ![1] Cert.Reference5Ideal.Gen.bcast_S2048_S1x2048_1 w))

/-- The reference's result of its arguments. -/
abbrev REF (h : FVec Ideal Cert.Reference5Ideal.S32768x2048 .f32) (p : FVec Ideal Cert.Reference5Ideal.S32768x256 .f32)
    (wg : FVec Ideal Cert.Reference5Ideal.S2048x2048 .f32) (we : FVec Ideal Cert.Reference5Ideal.S256x2048 .f32)
    (w : FVec Ideal Cert.Reference5Ideal.S2048 .f32) : FVec Ideal Cert.Reference5Ideal.S32768x2048 .f32 :=
  addf h (NORMED (GATED h p wg we) w)

/-- Every window's block index at every grid point. -/
theorem idx : ∀ t : Fin cfg0.N, win0_0.index t = ![t.val, 0]
    ∧ win0_1.index t = ![t.val, 0]
    ∧ win0_2.index t = ![0, 0]
    ∧ win0_3.index t = ![0, 0]
    ∧ win0_4.index t = ![0, 0]
    ∧ win0_5.index t = ![t.val, 0] :=
  (by decide +kernel : ∀ t : Fin grid0.N, _)

/-- What the body stores at block index `y` of point `t` is the reference at the array index `y` sits at. -/
theorem point (c : Dev nD) (t : Fin cfg0.N) (y) :
    k0_pay1 (iblk m c 0 t) (iblk m c 2 t) (iblk m c 1 t) (iblk m c 3 t) (iblk m c 4 t) y
      = REF (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  pointwise [k0_pay1, REF, NORMED, GATED]
  simp only [Ideal.logistic]
  blk_point [iblk, V, idx t]

/-- The result array after the run. -/
theorem final (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp; rw [after0_5]; frame_out
  exact point m c t y

end Cert.Kernel5Ideal.Value

namespace Cert.Proof.Ple

/-- The reference ends with its arguments unchanged. -/
theorem frame_reference : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- The kernel's array and the reference's are equal. -/
theorem algebraic : Cert.algebraic_Kernel5Ideal_Reference5Ideal := by
  intro m ρ m' ρ' _ hagree
  refine ⟨fun c => (Cert.Kernel5Ideal.Gen.dats m 0 c).arrAt 5 Cert.Kernel5Ideal.cfg0.N,
    Cert.Kernel5Ideal.Value.run_blocks (F := Ideal) m ρ, ?_⟩
  refine (θ_run _ _ _).mono (fun _ h c => ⟨(h c).1.trans ?_, (h c).2⟩) (Cert.Reference5Ideal.Value.run (F := Ideal) m' ρ')
  obtain ⟨e0, e1, e2, e3, e4⟩ := hagree c
  rw [e0, e1, e2, e3, e4]
  exact (Cert.Kernel5Ideal.Value.final m c).symm

end Cert.Proof.Ple

end
-- ==== Proof.lean ====
module

public import proofs.«01_k».proof.Proof.Ret.FrameBits
public import proofs.«01_k».proof.Proof.Ret.Value
public import proofs.«01_k».proof.Proof.NormProj
public import proofs.«01_k».proof.Proof.OutProj
public import proofs.«01_k».proof.Proof.Ffn
public import proofs.«01_k».proof.Proof.Ple
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.ReferenceIdeal.Run
public import proofs.«01_k».proof.Proof.Gen.ReferenceIdeal.Step
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
  fun m ρ _ => Cert.Proof.RetBits.frame_kernel (F := Bits) m ρ,
  fun m ρ _ => Cert.Proof.Ret.frame_kernel (F := Ideal) m ρ,
  Cert.Proof.Ret.frame_reference,
  fun m ρ _ => Cert.Kernel2.Gen.frame m ρ,
  fun m ρ _ => Cert.Kernel2Ideal.Gen.frame m ρ,
  Cert.Proof.NormProj.frame_reference,
  fun m ρ _ => Cert.Kernel3.Gen.frame m ρ,
  fun m ρ _ => Cert.Kernel3Ideal.Gen.frame m ρ,
  Cert.Proof.OutProj.frame_reference,
  fun m ρ _ => Cert.Kernel4.Gen.frame m ρ,
  fun m ρ _ => Cert.Kernel4Ideal.Gen.frame m ρ,
  Cert.Proof.Ffn.frame_reference,
  fun m ρ _ => Cert.Kernel5.Gen.frame m ρ,
  fun m ρ _ => Cert.Kernel5Ideal.Gen.frame m ρ,
  Cert.Proof.Ple.frame_reference,
  trivial,
  Cert.Proof.Ret.algebraic,
  trivial,
  Cert.Proof.NormProj.algebraic,
  trivial,
  Cert.Proof.OutProj.algebraic,
  trivial,
  Cert.Proof.Ffn.algebraic,
  trivial,
  Cert.Proof.Ple.algebraic⟩

end Cert.Proof

end
